-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_in_vocabulary_KernelIdeal [hPre_finite_in_vocabulary_KernelIdeal : Cert.Pre_finite_in_vocabulary_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_vocabulary_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_in_vocabulary_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_in_vocabulary_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in_vocabulary_ReferenceIdeal [hPre_finite_in_vocabulary_ReferenceIdeal : Cert.Pre_finite_in_vocabulary_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_vocabulary_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_in_vocabulary_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_in_vocabulary_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_in_vocabulary_KernelIdeal [hKernelIdeal : Cert.KernelIdeal.Facts] [hPre_finite_in_vocabulary_KernelIdeal : Cert.Pre_finite_in_vocabulary_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_vocabulary_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_in_vocabulary_ReferenceIdeal [hReferenceIdeal : Cert.ReferenceIdeal.Facts] [hPre_finite_in_vocabulary_ReferenceIdeal : Cert.Pre_finite_in_vocabulary_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in_vocabulary_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_in_vocabulary_KernelIdeal [hKernelIdeal : Cert.KernelIdeal.Facts] [hReferenceIdeal : Cert.ReferenceIdeal.Facts] [hPre_finite_in_vocabulary_KernelIdeal : Cert.Pre_finite_in_vocabulary_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in_vocabulary_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![1024, 8192]⟩ ⟨2, ![1024, 32768]⟩ (Layout.meshBlock [2, 4, 4] ![[], [2]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v26) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_in_vocabulary_KernelIdeal : Cert.Pre_finite_in_vocabulary_KernelIdeal.Facts) (hPre_finite_in_vocabulary_ReferenceIdeal : Cert.Pre_finite_in_vocabulary_ReferenceIdeal.Facts),
    quiescent_Kernel (hKernel := hKernel)
    ∧ quiescent_KernelIdeal (hKernelIdeal := hKernelIdeal)
    ∧ quiescent_KernelIdeal_pre_finite_in_vocabulary_KernelIdeal (hKernelIdeal := hKernelIdeal) (hPre_finite_in_vocabulary_KernelIdeal := hPre_finite_in_vocabulary_KernelIdeal)
    ∧ quiescent_ReferenceIdeal (hReferenceIdeal := hReferenceIdeal)
    ∧ quiescent_ReferenceIdeal_pre_finite_in_vocabulary_ReferenceIdeal (hReferenceIdeal := hReferenceIdeal) (hPre_finite_in_vocabulary_ReferenceIdeal := hPre_finite_in_vocabulary_ReferenceIdeal)
    ∧ preserves_Kernel_KernelIdeal
    ∧ algebraic_KernelIdeal_ReferenceIdeal_pre_finite_in_vocabulary_KernelIdeal (hKernelIdeal := hKernelIdeal) (hReferenceIdeal := hReferenceIdeal) (hPre_finite_in_vocabulary_KernelIdeal := hPre_finite_in_vocabulary_KernelIdeal)
-- ==== Pre_finite_in_vocabulary_KernelIdeal.lean ====
abbrev S512x1024 : Shape := ⟨2, ![512, 1024]⟩
abbrev S1024x8192 : Shape := ⟨2, ![1024, 8192]⟩
abbrev S512 : Shape := ⟨1, ![512]⟩
abbrev S_ : Shape := ⟨0, ![]⟩

class Facts : Prop where
  bcast_S_S512x1024 : S_.BroadcastsInDim S512x1024 (![] : Fin 0 → Fin S512x1024.rank)
  bcast_S_S1024x8192 : S_.BroadcastsInDim S1024x8192 (![] : Fin 0 → Fin S1024x8192.rank)
  bcast_S_S512 : S_.BroadcastsInDim S512 (![] : Fin 0 → Fin S512.rank)

variable [Facts]

def fn {F : FTy → Type} [FloatOps F] (main_arg0 : FVec F S512x1024 .f32) (main_arg1 : FVec F S1024x8192 .f32) (main_arg2 : IVec S512 32) : IVec S512x1024 1 × IVec S1024x8192 1 × IVec S512 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_v3 : FVec F S1024x8192 .f32 := Host.absf main_arg1
  let main_cst_0 : FVec F S_ .f32 := constant S_ .f32 0x7F800000#32
  let main_v4 : FVec F S1024x8192 .f32 := broadcastInDim S1024x8192 ![] bcast_S_S1024x8192 main_cst_0
  let main_v5 : IVec S1024x8192 1 := cmpf .olt main_v3 main_v4
  let main_c : IVec S_ 32 := constantI S_ 32 0#32
  let main_v6 : IVec S512 32 := broadcastInDim S512 ![] bcast_S_S512 main_c
  let main_v7 : IVec S512 1 := cmpi .sge main_arg2 main_v6
  let main_c_1 : IVec S_ 32 := constantI S_ 32 32768#32
  let main_v8 : IVec S512 32 := broadcastInDim S512 ![] bcast_S_S512 main_c_1
  let main_v9 : IVec S512 1 := cmpi .slt main_arg2 main_v8
  let main_v10 : IVec S512 1 := andi main_v7 main_v9
  (main_v2, main_v5, main_v10)
-- ==== Pre_finite_in_vocabulary_ReferenceIdeal.lean ====
abbrev S512x1024 : Shape := ⟨2, ![512, 1024]⟩
abbrev S1024x32768 : Shape := ⟨2, ![1024, 32768]⟩
abbrev S512 : Shape := ⟨1, ![512]⟩
abbrev S_ : Shape := ⟨0, ![]⟩

class Facts : Prop where
  bcast_S_S512x1024 : S_.BroadcastsInDim S512x1024 (![] : Fin 0 → Fin S512x1024.rank)
  bcast_S_S1024x32768 : S_.BroadcastsInDim S1024x32768 (![] : Fin 0 → Fin S1024x32768.rank)
  bcast_S_S512 : S_.BroadcastsInDim S512 (![] : Fin 0 → Fin S512.rank)

variable [Facts]

def fn {F : FTy → Type} [FloatOps F] (main_arg0 : FVec F S512x1024 .f32) (main_arg1 : FVec F S1024x32768 .f32) (main_arg2 : IVec S512 32) : IVec S512x1024 1 × IVec S1024x32768 1 × IVec S512 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_v3 : FVec F S1024x32768 .f32 := Host.absf main_arg1
  let main_cst_0 : FVec F S_ .f32 := constant S_ .f32 0x7F800000#32
  let main_v4 : FVec F S1024x32768 .f32 := broadcastInDim S1024x32768 ![] bcast_S_S1024x32768 main_cst_0
  let main_v5 : IVec S1024x32768 1 := cmpf .olt main_v3 main_v4
  let main_c : IVec S_ 32 := constantI S_ 32 0#32
  let main_v6 : IVec S512 32 := broadcastInDim S512 ![] bcast_S_S512 main_c
  let main_v7 : IVec S512 1 := cmpi .sge main_arg2 main_v6
  let main_c_1 : IVec S_ 32 := constantI S_ 32 32768#32
  let main_v8 : IVec S512 32 := broadcastInDim S512 ![] bcast_S_S512 main_c_1
  let main_v9 : IVec S512 1 := cmpi .slt main_arg2 main_v8
  let main_v10 : IVec S512 1 := andi main_v7 main_v9
  (main_v2, main_v5, main_v10)
-- ==== Kernel.lean ====
abbrev S512x1024 : Shape := ⟨2, ![512, 1024]⟩
abbrev S1024x8192 : Shape := ⟨2, ![1024, 8192]⟩
abbrev S512 : Shape := ⟨1, ![512]⟩
abbrev S2x512 : Shape := ⟨2, ![2, 512]⟩
abbrev S3x2x512 : Shape := ⟨3, ![3, 2, 512]⟩
abbrev S3 : Shape := ⟨1, ![3]⟩
abbrev S_ : Shape := ⟨0, ![]⟩
abbrev S512x8192 : Shape := ⟨2, ![512, 8192]⟩
abbrev S512x1 : Shape := ⟨2, ![512, 1]⟩
abbrev S1x512 : Shape := ⟨2, ![1, 512]⟩
abbrev S1 : Shape := ⟨1, ![1]⟩
abbrev S1x2x512 : Shape := ⟨3, ![1, 2, 512]⟩
abbrev S1x1x512 : Shape := ⟨3, ![1, 1, 512]⟩

abbrev nBuf : Space → Nat
  | .hbm => 4
  | .vmem => 6
  | .smem => 0
  | _ => 0

abbrev bufTy : (tb : Table) → Fin (tcTables nBuf tb) → BufTy
  | .hbm, ⟨0, _⟩ => ⟨S512x1024, .f32⟩
  | .hbm, ⟨1, _⟩ => ⟨S1024x8192, .f32⟩
  | .hbm, ⟨2, _⟩ => ⟨S512, .i32⟩
  | .hbm, ⟨3, _⟩ => ⟨S512, .f32⟩
  | .local _ .vmem, ⟨0, _⟩ => ⟨S512x1024, .f32⟩
  | .local _ .vmem, ⟨1, _⟩ => ⟨S1024x8192, .f32⟩
  | .local _ .vmem, ⟨2, _⟩ => ⟨S512, .i32⟩
  | .local _ .vmem, ⟨3, _⟩ => ⟨S512, .f32⟩
  | .local _ .vmem, ⟨4, _⟩ => ⟨S2x512, .f32⟩
  | .local _ .vmem, ⟨5, _⟩ => ⟨S3x2x512, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 2 → Bool
  | ⟨0, _⟩ => false
  | ⟨1, _⟩ => true
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 2 10 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_10 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_9 : BitVec 32 := 16#32
  let v21 : BitVec 32 := Scalar.muli v2 c16_i32_9
  let v22 : BitVec 32 := Scalar.addi c0_i32_10 v21
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_11 : BitVec 32 := 4#32
  let v23 : BitVec 32 := Scalar.muli v5 c4_i32_11
  let v24 : BitVec 32 := Scalar.addi v22 v23
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v10 : BitVec 32 := Scalar.addi v8 c1_i32_2
  let c4_i32_3 : BitVec 32 := 4#32
  let c0_i32 : BitVec 32 := 0#32
  let v11 : BitVec 1 := Scalar.cmpi .eq c4_i32_3 c0_i32
  let c1_i32_4 : BitVec 32 := 1#32
  let v12 : BitVec 32 := Scalar.select v11 c1_i32_4 c4_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let c1_i32_12 : BitVec 32 := 1#32
  let v25 : BitVec 32 := Scalar.muli v20 c1_i32_12
  let v26 : BitVec 32 := Scalar.addi v24 v25
  v26.toNat
def k0_dev2 (d0 : Dev nD) : Nat :=
  let c0_i32_22 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_21 : BitVec 32 := 16#32
  let v38 : BitVec 32 := Scalar.muli v2 c16_i32_21
  let v39 : BitVec 32 := Scalar.addi c0_i32_22 v38
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_23 : BitVec 32 := 4#32
  let v40 : BitVec 32 := Scalar.muli v5 c4_i32_23
  let v41 : BitVec 32 := Scalar.addi v39 v40
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_13 : BitVec 32 := 2#32
  let v27 : BitVec 32 := Scalar.addi v8 c2_i32_13
  let c4_i32_14 : BitVec 32 := 4#32
  let c0_i32_15 : BitVec 32 := 0#32
  let v28 : BitVec 1 := Scalar.cmpi .eq c4_i32_14 c0_i32_15
  let c1_i32_16 : BitVec 32 := 1#32
  let v29 : BitVec 32 := Scalar.select v28 c1_i32_16 c4_i32_14
  let v30 : BitVec 32 := Scalar.remsi v27 v29
  let c0_i32_18 : BitVec 32 := 0#32
  let v32 : BitVec 1 := Scalar.cmpi .slt v30 c0_i32_18
  let c0_i32_19 : BitVec 32 := 0#32
  let v33 : BitVec 1 := Scalar.cmpi .slt v29 c0_i32_19
  let v34 : BitVec 1 := Scalar.xori v32 v33
  let c0_i32_17 : BitVec 32 := 0#32
  let v31 : BitVec 1 := Scalar.cmpi .ne v30 c0_i32_17
  let v35 : BitVec 1 := Scalar.andi v34 v31
  let v36 : BitVec 32 := Scalar.addi v30 v29
  let v37 : BitVec 32 := Scalar.select v35 v36 v30
  let c1_i32_24 : BitVec 32 := 1#32
  let v42 : BitVec 32 := Scalar.muli v37 c1_i32_24
  let v43 : BitVec 32 := Scalar.addi v41 v42
  v43.toNat
def k0_dev3 (d0 : Dev nD) : Nat :=
  let c0_i32_33 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_32 : BitVec 32 := 16#32
  let v55 : BitVec 32 := Scalar.muli v2 c16_i32_32
  let v56 : BitVec 32 := Scalar.addi c0_i32_33 v55
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_34 : BitVec 32 := 4#32
  let v57 : BitVec 32 := Scalar.muli v5 c4_i32_34
  let v58 : BitVec 32 := Scalar.addi v56 v57
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v44 : BitVec 32 := Scalar.addi v8 c3_i32
  let c4_i32_25 : BitVec 32 := 4#32
  let c0_i32_26 : BitVec 32 := 0#32
  let v45 : BitVec 1 := Scalar.cmpi .eq c4_i32_25 c0_i32_26
  let c1_i32_27 : BitVec 32 := 1#32
  let v46 : BitVec 32 := Scalar.select v45 c1_i32_27 c4_i32_25
  let v47 : BitVec 32 := Scalar.remsi v44 v46
  let c0_i32_29 : BitVec 32 := 0#32
  let v49 : BitVec 1 := Scalar.cmpi .slt v47 c0_i32_29
  let c0_i32_30 : BitVec 32 := 0#32
  let v50 : BitVec 1 := Scalar.cmpi .slt v46 c0_i32_30
  let v51 : BitVec 1 := Scalar.xori v49 v50
  let c0_i32_28 : BitVec 32 := 0#32
  let v48 : BitVec 1 := Scalar.cmpi .ne v47 c0_i32_28
  let v52 : BitVec 1 := Scalar.andi v51 v48
  let v53 : BitVec 32 := Scalar.addi v47 v46
  let v54 : BitVec 32 := Scalar.select v52 v53 v47
  let c1_i32_35 : BitVec 32 := 1#32
  let v59 : BitVec 32 := Scalar.muli v54 c1_i32_35
  let v60 : BitVec 32 := Scalar.addi v58 v59
  v60.toNat
def k0_dev4 (d0 : Dev nD) : Nat :=
  let c0_i32_58 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_57 : BitVec 32 := 16#32
  let v97 : BitVec 32 := Scalar.muli v2 c16_i32_57
  let v98 : BitVec 32 := Scalar.addi c0_i32_58 v97
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_59 : BitVec 32 := 4#32
  let v99 : BitVec 32 := Scalar.muli v5 c4_i32_59
  let v100 : BitVec 32 := Scalar.addi v98 v99
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_47 : BitVec 32 := 1#32
  let v86 : BitVec 32 := Scalar.addi v8 c1_i32_47
  let c4_i32_48 : BitVec 32 := 4#32
  let c0_i32_49 : BitVec 32 := 0#32
  let v87 : BitVec 1 := Scalar.cmpi .eq c4_i32_48 c0_i32_49
  let c1_i32_50 : BitVec 32 := 1#32
  let v88 : BitVec 32 := Scalar.select v87 c1_i32_50 c4_i32_48
  let v89 : BitVec 32 := Scalar.remsi v86 v88
  let c0_i32_52 : BitVec 32 := 0#32
  let v91 : BitVec 1 := Scalar.cmpi .slt v89 c0_i32_52
  let c0_i32_53 : BitVec 32 := 0#32
  let v92 : BitVec 1 := Scalar.cmpi .slt v88 c0_i32_53
  let v93 : BitVec 1 := Scalar.xori v91 v92
  let c0_i32_51 : BitVec 32 := 0#32
  let v90 : BitVec 1 := Scalar.cmpi .ne v89 c0_i32_51
  let v94 : BitVec 1 := Scalar.andi v93 v90
  let v95 : BitVec 32 := Scalar.addi v89 v88
  let v96 : BitVec 32 := Scalar.select v94 v95 v89
  let c1_i32_60 : BitVec 32 := 1#32
  let v101 : BitVec 32 := Scalar.muli v96 c1_i32_60
  let v102 : BitVec 32 := Scalar.addi v100 v101
  v102.toNat
def k0_dev5 (d0 : Dev nD) : Nat :=
  let c0_i32_74 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_73 : BitVec 32 := 16#32
  let v120 : BitVec 32 := Scalar.muli v2 c16_i32_73
  let v121 : BitVec 32 := Scalar.addi c0_i32_74 v120
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_75 : BitVec 32 := 4#32
  let v122 : BitVec 32 := Scalar.muli v5 c4_i32_75
  let v123 : BitVec 32 := Scalar.addi v121 v122
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_63 : BitVec 32 := 2#32
  let v109 : BitVec 32 := Scalar.addi v8 c2_i32_63
  let c4_i32_64 : BitVec 32 := 4#32
  let c0_i32_65 : BitVec 32 := 0#32
  let v110 : BitVec 1 := Scalar.cmpi .eq c4_i32_64 c0_i32_65
  let c1_i32_66 : BitVec 32 := 1#32
  let v111 : BitVec 32 := Scalar.select v110 c1_i32_66 c4_i32_64
  let v112 : BitVec 32 := Scalar.remsi v109 v111
  let c0_i32_68 : BitVec 32 := 0#32
  let v114 : BitVec 1 := Scalar.cmpi .slt v112 c0_i32_68
  let c0_i32_69 : BitVec 32 := 0#32
  let v115 : BitVec 1 := Scalar.cmpi .slt v111 c0_i32_69
  let v116 : BitVec 1 := Scalar.xori v114 v115
  let c0_i32_67 : BitVec 32 := 0#32
  let v113 : BitVec 1 := Scalar.cmpi .ne v112 c0_i32_67
  let v117 : BitVec 1 := Scalar.andi v116 v113
  let v118 : BitVec 32 := Scalar.addi v112 v111
  let v119 : BitVec 32 := Scalar.select v117 v118 v112
  let c1_i32_76 : BitVec 32 := 1#32
  let v124 : BitVec 32 := Scalar.muli v119 c1_i32_76
  let v125 : BitVec 32 := Scalar.addi v123 v124
  v125.toNat
def k0_dev6 (d0 : Dev nD) : Nat :=
  let c0_i32_90 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_89 : BitVec 32 := 16#32
  let v143 : BitVec 32 := Scalar.muli v2 c16_i32_89
  let v144 : BitVec 32 := Scalar.addi c0_i32_90 v143
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_91 : BitVec 32 := 4#32
  let v145 : BitVec 32 := Scalar.muli v5 c4_i32_91
  let v146 : BitVec 32 := Scalar.addi v144 v145
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_79 : BitVec 32 := 3#32
  let v132 : BitVec 32 := Scalar.addi v8 c3_i32_79
  let c4_i32_80 : BitVec 32 := 4#32
  let c0_i32_81 : BitVec 32 := 0#32
  let v133 : BitVec 1 := Scalar.cmpi .eq c4_i32_80 c0_i32_81
  let c1_i32_82 : BitVec 32 := 1#32
  let v134 : BitVec 32 := Scalar.select v133 c1_i32_82 c4_i32_80
  let v135 : BitVec 32 := Scalar.remsi v132 v134
  let c0_i32_84 : BitVec 32 := 0#32
  let v137 : BitVec 1 := Scalar.cmpi .slt v135 c0_i32_84
  let c0_i32_85 : BitVec 32 := 0#32
  let v138 : BitVec 1 := Scalar.cmpi .slt v134 c0_i32_85
  let v139 : BitVec 1 := Scalar.xori v137 v138
  let c0_i32_83 : BitVec 32 := 0#32
  let v136 : BitVec 1 := Scalar.cmpi .ne v135 c0_i32_83
  let v140 : BitVec 1 := Scalar.andi v139 v136
  let v141 : BitVec 32 := Scalar.addi v135 v134
  let v142 : BitVec 32 := Scalar.select v140 v141 v135
  let c1_i32_92 : BitVec 32 := 1#32
  let v147 : BitVec 32 := Scalar.muli v142 c1_i32_92
  let v148 : BitVec 32 := Scalar.addi v146 v147
  v148.toNat
def k0_dev7 (d0 : Dev nD) : Nat :=
  let c0_i32_171_r0 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_170_r0 : BitVec 32 := 16#32
  let v234_r0 : BitVec 32 := Scalar.muli v2 c16_i32_170_r0
  let v235_r0 : BitVec 32 := Scalar.addi c0_i32_171_r0 v234_r0
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_172_r0 : BitVec 32 := 4#32
  let v236_r0 : BitVec 32 := Scalar.muli v5 c4_i32_172_r0
  let v237_r0 : BitVec 32 := Scalar.addi v235_r0 v236_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_162_r0 : BitVec 32 := 1#32
  let v223_r0 : BitVec 32 := Scalar.addi v8 c1_i32_162_r0
  let c4_i32_163_r0 : BitVec 32 := 4#32
  let c0_i32_164_r0 : BitVec 32 := 0#32
  let v224_r0 : BitVec 1 := Scalar.cmpi .eq c4_i32_163_r0 c0_i32_164_r0
  let c1_i32_165_r0 : BitVec 32 := 1#32
  let v225_r0 : BitVec 32 := Scalar.select v224_r0 c1_i32_165_r0 c4_i32_163_r0
  let v226_r0 : BitVec 32 := Scalar.remsi v223_r0 v225_r0
  let c0_i32_167_r0 : BitVec 32 := 0#32
  let v228_r0 : BitVec 1 := Scalar.cmpi .slt v226_r0 c0_i32_167_r0
  let c0_i32_168_r0 : BitVec 32 := 0#32
  let v229_r0 : BitVec 1 := Scalar.cmpi .slt v225_r0 c0_i32_168_r0
  let v230_r0 : BitVec 1 := Scalar.xori v228_r0 v229_r0
  let c0_i32_166_r0 : BitVec 32 := 0#32
  let v227_r0 : BitVec 1 := Scalar.cmpi .ne v226_r0 c0_i32_166_r0
  let v231_r0 : BitVec 1 := Scalar.andi v230_r0 v227_r0
  let v232_r0 : BitVec 32 := Scalar.addi v226_r0 v225_r0
  let v233_r0 : BitVec 32 := Scalar.select v231_r0 v232_r0 v226_r0
  let c1_i32_173_r0 : BitVec 32 := 1#32
  let v238_r0 : BitVec 32 := Scalar.muli v233_r0 c1_i32_173_r0
  let v239_r0 : BitVec 32 := Scalar.addi v237_r0 v238_r0
  v239_r0.toNat
def k0_dev8 (d0 : Dev nD) : Nat :=
  let c0_i32_183_r0 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_182_r0 : BitVec 32 := 16#32
  let v251_r0 : BitVec 32 := Scalar.muli v2 c16_i32_182_r0
  let v252_r0 : BitVec 32 := Scalar.addi c0_i32_183_r0 v251_r0
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_184_r0 : BitVec 32 := 4#32
  let v253_r0 : BitVec 32 := Scalar.muli v5 c4_i32_184_r0
  let v254_r0 : BitVec 32 := Scalar.addi v252_r0 v253_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_174_r0 : BitVec 32 := 2#32
  let v240_r0 : BitVec 32 := Scalar.addi v8 c2_i32_174_r0
  let c4_i32_175_r0 : BitVec 32 := 4#32
  let c0_i32_176_r0 : BitVec 32 := 0#32
  let v241_r0 : BitVec 1 := Scalar.cmpi .eq c4_i32_175_r0 c0_i32_176_r0
  let c1_i32_177_r0 : BitVec 32 := 1#32
  let v242_r0 : BitVec 32 := Scalar.select v241_r0 c1_i32_177_r0 c4_i32_175_r0
  let v243_r0 : BitVec 32 := Scalar.remsi v240_r0 v242_r0
  let c0_i32_179_r0 : BitVec 32 := 0#32
  let v245_r0 : BitVec 1 := Scalar.cmpi .slt v243_r0 c0_i32_179_r0
  let c0_i32_180_r0 : BitVec 32 := 0#32
  let v246_r0 : BitVec 1 := Scalar.cmpi .slt v242_r0 c0_i32_180_r0
  let v247_r0 : BitVec 1 := Scalar.xori v245_r0 v246_r0
  let c0_i32_178_r0 : BitVec 32 := 0#32
  let v244_r0 : BitVec 1 := Scalar.cmpi .ne v243_r0 c0_i32_178_r0
  let v248_r0 : BitVec 1 := Scalar.andi v247_r0 v244_r0
  let v249_r0 : BitVec 32 := Scalar.addi v243_r0 v242_r0
  let v250_r0 : BitVec 32 := Scalar.select v248_r0 v249_r0 v243_r0
  let c1_i32_185_r0 : BitVec 32 := 1#32
  let v255_r0 : BitVec 32 := Scalar.muli v250_r0 c1_i32_185_r0
  let v256_r0 : BitVec 32 := Scalar.addi v254_r0 v255_r0
  v256_r0.toNat
def k0_dev9 (d0 : Dev nD) : Nat :=
  let c0_i32_195_r0 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_194_r0 : BitVec 32 := 16#32
  let v268_r0 : BitVec 32 := Scalar.muli v2 c16_i32_194_r0
  let v269_r0 : BitVec 32 := Scalar.addi c0_i32_195_r0 v268_r0
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_196_r0 : BitVec 32 := 4#32
  let v270_r0 : BitVec 32 := Scalar.muli v5 c4_i32_196_r0
  let v271_r0 : BitVec 32 := Scalar.addi v269_r0 v270_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_186_r0 : BitVec 32 := 3#32
  let v257_r0 : BitVec 32 := Scalar.addi v8 c3_i32_186_r0
  let c4_i32_187_r0 : BitVec 32 := 4#32
  let c0_i32_188_r0 : BitVec 32 := 0#32
  let v258_r0 : BitVec 1 := Scalar.cmpi .eq c4_i32_187_r0 c0_i32_188_r0
  let c1_i32_189_r0 : BitVec 32 := 1#32
  let v259_r0 : BitVec 32 := Scalar.select v258_r0 c1_i32_189_r0 c4_i32_187_r0
  let v260_r0 : BitVec 32 := Scalar.remsi v257_r0 v259_r0
  let c0_i32_191_r0 : BitVec 32 := 0#32
  let v262_r0 : BitVec 1 := Scalar.cmpi .slt v260_r0 c0_i32_191_r0
  let c0_i32_192_r0 : BitVec 32 := 0#32
  let v263_r0 : BitVec 1 := Scalar.cmpi .slt v259_r0 c0_i32_192_r0
  let v264_r0 : BitVec 1 := Scalar.xori v262_r0 v263_r0
  let c0_i32_190_r0 : BitVec 32 := 0#32
  let v261_r0 : BitVec 1 := Scalar.cmpi .ne v260_r0 c0_i32_190_r0
  let v265_r0 : BitVec 1 := Scalar.andi v264_r0 v261_r0
  let v266_r0 : BitVec 32 := Scalar.addi v260_r0 v259_r0
  let v267_r0 : BitVec 32 := Scalar.select v265_r0 v266_r0 v260_r0
  let c1_i32_197_r0 : BitVec 32 := 1#32
  let v272_r0 : BitVec 32 := Scalar.muli v267_r0 c1_i32_197_r0
  let v273_r0 : BitVec 32 := Scalar.addi v271_r0 v272_r0
  v273_r0.toNat
abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S512x1024 : Shape := ⟨2, ![512, 1024]⟩
abbrev S1024x32768 : Shape := ⟨2, ![1024, 32768]⟩
abbrev S512 : Shape := ⟨1, ![512]⟩
abbrev S512x32768 : Shape := ⟨2, ![512, 32768]⟩
abbrev S_ : Shape := ⟨0, ![]⟩
abbrev S512x1 : Shape := ⟨2, ![512, 1]⟩
abbrev S512x2 : Shape := ⟨2, ![512, 2]⟩

abbrev nBuf : Space → Nat
  | .hbm => 36
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x32768, .f32⟩
  | .hbm, ⟨2, _⟩ => ⟨S512, .i32⟩
  | .hbm, ⟨3, _⟩ => ⟨S512x32768, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S512x32768, .f32⟩
  | .hbm, ⟨8, _⟩ => ⟨S512x32768, .f32⟩
  | .hbm, ⟨9, _⟩ => ⟨S512x32768, .f32⟩
  | .hbm, ⟨10, _⟩ => ⟨S_, .f32⟩
  | .hbm, ⟨11, _⟩ => ⟨S512, .f32⟩
  | .hbm, ⟨12, _⟩ => ⟨S512x1, .f32⟩
  | .hbm, ⟨13, _⟩ => ⟨S512x1, .f32⟩
  | .hbm, ⟨14, _⟩ => ⟨S512x1, .f32⟩
  | .hbm, ⟨15, _⟩ => ⟨S512, .f32⟩
  | .hbm, ⟨16, _⟩ => ⟨S512, .i32⟩
  | .hbm, ⟨17, _⟩ => ⟨S_, .i32⟩
  | .hbm, ⟨18, _⟩ => ⟨S512, .i32⟩
  | .hbm, ⟨19, _⟩ => ⟨S512, .i1⟩
  | .hbm, ⟨20, _⟩ => ⟨S_, .i32⟩
  | .hbm, ⟨21, _⟩ => ⟨S512, .i32⟩
  | .hbm, ⟨22, _⟩ => ⟨S512, .i32⟩
  | .hbm, ⟨23, _⟩ => ⟨S512, .i32⟩
  | .hbm, ⟨24, _⟩ => ⟨S_, .i32⟩
  | .hbm, ⟨25, _⟩ => ⟨S512, .i32⟩
  | .hbm, ⟨26, _⟩ => ⟨S512, .i1⟩
  | .hbm, ⟨27, _⟩ => ⟨S_, .i32⟩
  | .hbm, ⟨28, _⟩ => ⟨S512, .i32⟩
  | .hbm, ⟨29, _⟩ => ⟨S512, .i32⟩
  | .hbm, ⟨30, _⟩ => ⟨S512, .i32⟩
  | .hbm, ⟨31, _⟩ => ⟨S512x1, .i32⟩
  | .hbm, ⟨32, _⟩ => ⟨S512x1, .i32⟩
  | .hbm, ⟨33, _⟩ => ⟨S512x2, .i32⟩
  | .hbm, ⟨34, _⟩ => ⟨S512, .f32⟩
  | .hbm, ⟨35, _⟩ => ⟨S512, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_2 : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Proof.Peers.lean ====
/-
# The devices of the kernel and who talks to whom

Thirty-two devices on a 2 × 4 × 4 mesh; the device numbered `c` has coordinates `x = c / 16`, `y = (c / 4) mod 4` and
`z = c mod 4`. Each device talks to the three other devices of its own `x` and `y`: `up j c` (for `j = 0, 1, 2`) is the device
`j + 1` steps further along `z`, round the ring of four. Going `j + 1` steps and then `3 - j` steps comes back, so
`up (Fin.rev j)` undoes `up j`: this one map says both whom a device addresses and who addresses it.

The printed program computes each peer's number from the device's own, in words; here those computations are closed.
-/
module

public import proofs.«01_k».proof.Proof.Gen.KernelIdeal.Skeleton

@[expose] public section

noncomputable section

namespace Cert.CrossEntropy

open Cert.KernelIdeal Cert.KernelIdeal.Gen
open Idealize.ShloMosaic

set_option backward.proofsInPublic true in
/-- The device `j + 1` steps further along `z` from `c`, at the same `x` and `y`. -/
def up (j : Fin 3) (c : Dev nD) : Dev nD :=
  ⟨c.val - c.val % 4 + (c.val % 4 + j.val + 1) % 4, by have h : c.val < 32 := c.isLt; show _ < 32; omega⟩

theorem up_val (j : Fin 3) (c : Dev nD) : (up j c).val = c.val - c.val % 4 + (c.val % 4 + j.val + 1) % 4 := rfl

/-- The steps to a peer and the remaining steps round the ring come back to the device. -/
theorem up_rev_up (j : Fin 3) (c : Dev nD) : up (Fin.rev j) (up j c) = c := by revert j c; decide
/-- The same the other way round. -/
theorem up_up_rev (j : Fin 3) (c : Dev nD) : up j (up (Fin.rev j) c) = c := by revert j c; decide

/-- Moving every device the same number of steps is a bijection of the mesh. -/
def turn (j : Fin 3) : Dev nD ≃ Dev nD := ⟨up j, up (Fin.rev j), up_rev_up j, up_up_rev j⟩

/-- A device's peer is at the number of steps that leads there, and only there. -/
theorem up_eq_iff (j : Fin 3) (c d : Dev nD) : up j d = c ↔ d = up (Fin.rev j) c :=
  ⟨fun h => by rw [← h, up_rev_up], fun h => by rw [h, up_up_rev]⟩

/-! ## The device numbers the program computes -/

/-- The three barrier signals address the three peers in order. -/
theorem bar_dev0 (c : Dev nD) : (⟨k0_dev1 c, k0_dev1_lt c⟩ : Dev nD) = up 0 c := by revert c; decide +kernel
theorem bar_dev1 (c : Dev nD) : (⟨k0_dev2 c, k0_dev2_lt c⟩ : Dev nD) = up 1 c := by revert c; decide +kernel
theorem bar_dev2 (c : Dev nD) : (⟨k0_dev3 c, k0_dev3_lt c⟩ : Dev nD) = up 2 c := by revert c; decide +kernel
/-- So do the three remote copies, -/
theorem copy_dev0 (c : Dev nD) : (⟨k0_dev4 c, k0_dev4_lt c⟩ : Dev nD) = up 0 c := by revert c; decide +kernel
theorem copy_dev1 (c : Dev nD) : (⟨k0_dev5 c, k0_dev5_lt c⟩ : Dev nD) = up 1 c := by revert c; decide +kernel
theorem copy_dev2 (c : Dev nD) : (⟨k0_dev6 c, k0_dev6_lt c⟩ : Dev nD) = up 2 c := by revert c; decide +kernel
/-- and the three signals of the closing handshake. -/
theorem done_dev0 (c : Dev nD) : (⟨k0_dev7 c, k0_dev7_lt c⟩ : Dev nD) = up 0 c := by revert c; decide +kernel
theorem done_dev1 (c : Dev nD) : (⟨k0_dev8 c, k0_dev8_lt c⟩ : Dev nD) = up 1 c := by revert c; decide +kernel
theorem done_dev2 (c : Dev nD) : (⟨k0_dev9 c, k0_dev9_lt c⟩ : Dev nD) = up 2 c := by revert c; decide +kernel

/-- The device's position along `z`, as the program computes it in words from the device's number. -/
def zWord (c : Dev nD) : BitVec 32 := Scalar.remsi (Scalar.divsi (Dev.word c) 1#32) 4#32

/-- It is the number modulo four. -/
theorem zWord_eq (c : Dev nD) : zWord c = BitVec.ofNat 32 (c.val % 4) := by revert c; decide +kernel

end Cert.CrossEntropy

end
-- ==== Proof.Contents.lean ====
/-
# The two scratch buffers and what they hold

`own` is a device's buffer of two rows of 512: the sums of exponentials, and the logits of the labels. `comm` has three slots of
the same shape, one for each peer's `own`. This module says which elements each row and slot occupies and what loads and
stores of them read and leave.
-/
module

public import proofs.«01_k».proof.Proof.Peers
public import Idealize.ShloMosaic.Lib.Ring
public import Idealize.ShloMosaic.Lib.Pipeline.Value
public import Idealize.ShloMosaic.Lib.Pipeline.ValueKit.Geometry
public import Idealize.ShloMosaic.Lib.ValueLayout
public import Idealize.ShloMosaic.Lib.Pointwise.Index
public import Idealize.ShloMosaic.Lib.Pointwise.IndexBridge

@[expose] public section

noncomputable section

namespace Cert.CrossEntropy

open Cert.KernelIdeal Cert.KernelIdeal.Gen
open Idealize.ShloMosaic

variable {F : FTy → Type}

/-! ## The memrefs -/

abbrev xM : Memref sig .tc .vmem S512x1024 .f32 := Memref.whole cc0_stg0_0
abbrev wM : Memref sig .tc .vmem S1024x8192 .f32 := Memref.whole cc0_stg1_0
abbrev labM : Memref sig .tc .vmem S512 .i32 := Memref.whole cc0_stg2_0
abbrev outM : Memref sig .tc .vmem S512 .f32 := Memref.whole cc0_stg3_0
abbrev ownM : Memref sig .tc .vmem S2x512 .f32 := Memref.whole cc0_scratch0
abbrev comM : Memref sig .tc .vmem S3x2x512 .f32 := Memref.whole cc0_scratch1

theorem row_inb (r : Fin 2) : ∀ a, (![r.val, 0] : Fin 2 → ℕ) a + S1x512.size a ≤ S2x512.size a := by revert r; decide
theorem slot_inb (j : Fin 3) : ∀ a, (![j.val, 0, 0] : Fin 3 → ℕ) a + S1x2x512.size a ≤ S3x2x512.size a := by revert j; decide
theorem pick_inb (j : Fin 3) (r : Fin 2) : ∀ a, (![j.val, r.val, 0] : Fin 3 → ℕ) a + S1x1x512.size a ≤ S3x2x512.size a := by
  revert j r; decide

/-- Row `r` of `own`. -/
abbrev rowR (r : Fin 2) : Rect S2x512 := Rect.unit (s := S2x512) ![r.val, 0] S1x512.size (row_inb r)
/-- Slot `j` of `comm`. -/
abbrev slotR (j : Fin 3) : Rect S3x2x512 := Rect.unit (s := S3x2x512) ![j.val, 0, 0] S1x2x512.size (slot_inb j)
/-- Row `r` of slot `j` of `comm`. -/
abbrev pickR (j : Fin 3) (r : Fin 2) : Rect S3x2x512 := Rect.unit (s := S3x2x512) ![j.val, r.val, 0] S1x1x512.size (pick_inb j r)

/-- Slot `j` as the two-row buffer a peer's copy writes. -/
abbrev slotM (j : Fin 3) : Memref sig .tc .vmem S2x512 .f32 :=
  (comM.slice (slotR j) (fun _ => rfl)).squeeze S2x512 squeezes_S1x2x512_S2x512

/-- The elements of `comm` that slot `j` occupies. -/
theorem slot_set (j : Fin 3) : (slotM j).view.set = (slotR j).set :=
  (View.set_reshape _ _).trans (View.set_slice_whole _ _)

theorem slots_disjoint (i j : Fin 3) (h : i ≠ j) : Disjoint (slotR i).set (slotR j).set :=
  Ring.lead_disjoint (s := S3x2x512) (0 : Fin 3) 1 (fun j => ![j.val, 0, 0]) S1x2x512.size slot_inb
    (fun b => (Nat.one_mul b.val).symm) rfl i j h

theorem slots_cover : Finset.univ.biUnion (fun j => (slotR j).set) = Finset.univ :=
  Ring.lead_cover (s := S3x2x512) (0 : Fin 3) 1 (fun j => ![j.val, 0, 0]) S1x2x512.size slot_inb
    (fun b => (Nat.one_mul b.val).symm)
    (fun b a h => by fin_cases a; · exact absurd rfl h
                     · rfl
                     · rfl) rfl (fun a h => by fin_cases a; · exact absurd rfl h
                                               · rfl
                                               · rfl) rfl

/-! ## Contents -/

/-- `own` with the row `s` on top of the row `l`. -/
def ownRows (s l : Vec F S1x512 .f32) : (cc0_scratch0 : Ref sig .tc).ty.Contents (Elt F) := fun i : S2x512.Idx =>
  if (i 0).val = 0 then s (ix2 (n0 := 1) (n1 := 512) 0 (i 1)) else l (ix2 (n0 := 1) (n1 := 512) 0 (i 1))

/-- `comm` with, in slot `j`, the row `s j` on top of the row `l j`. -/
def comRows (s l : Fin 3 → Vec F S1x512 .f32) : (cc0_scratch1 : Ref sig .tc).ty.Contents (Elt F) := fun i : S3x2x512.Idx =>
  if (i 1).val = 0 then s (i 0) (ix2 (n0 := 1) (n1 := 512) 0 (i 2)) else l (i 0) (ix2 (n0 := 1) (n1 := 512) 0 (i 2))

/-- A row of 512 as a block of one slot, one row and 512 columns. -/
def deepen (v : Vec F S1x512 .f32) : Vec F S1x1x512 .f32 := fun i : S1x1x512.Idx => v (ix2 (n0 := 1) (n1 := 512) 0 (i 2))

/-- Element `b` of row `r`, placed in `own`. -/
theorem row_emb (r : Fin 2) (b : Fin 512) :
    (ownM.access (rowR r) : View sig .tc _ _ _).emb (ix2 (n0 := 1) (n1 := 512) 0 b) = ix2 (n0 := 2) (n1 := 512) r b := by
  funext a
  refine Fin.ext ((ValueKit.view_emb_slice_whole_unit_val cc0_scratch0 ![r.val, 0] S1x512.size (row_inb r) _ a).trans ?_)
  fin_cases a
  · show r.val + 0 = r.val; omega
  · show 0 + b.val = b.val; omega

/-- Element `b` of row `r` of slot `j`, placed in `comm`. -/
theorem pick_emb (j : Fin 3) (r : Fin 2) (b : Fin 512) :
    (comM.access (pickR j r) : View sig .tc _ _ _).emb (ix3 (n0 := 1) (n1 := 1) (n2 := 512) 0 0 b)
      = ix3 (n0 := 3) (n1 := 2) (n2 := 512) j r b := by
  funext a
  refine Fin.ext ((ValueKit.view_emb_slice_whole_unit_val cc0_scratch1 ![j.val, r.val, 0] S1x1x512.size (pick_inb j r) _ a).trans ?_)
  fin_cases a
  · show j.val + 0 = j.val; omega
  · show r.val + 0 = r.val; omega
  · show 0 + b.val = b.val; omega

/-- Element `(r, b)` of slot `j` taken as a two-row buffer, placed in `comm`. -/
theorem slot_emb (j : Fin 3) (r : Fin 2) (b : Fin 512) :
    (slotM j).view.emb (ix2 (n0 := 2) (n1 := 512) r b) = ix3 (n0 := 3) (n1 := 2) (n2 := 512) j r b := by
  show (comM.access (slotR j) : View sig .tc _ _ _).emb (Shape.reshapeEquiv _ (ix2 (n0 := 2) (n1 := 512) r b)) = _
  rw [ix2_eq_valueIdx, ValueIdx.reshapeEquiv_ix2_1ab]
  funext a
  refine Fin.ext ((ValueKit.view_emb_slice_whole_unit_val cc0_scratch1 ![j.val, 0, 0] S1x2x512.size (slot_inb j) _ a).trans ?_)
  fin_cases a
  · show j.val + 0 = j.val; omega
  · show 0 + r.val = r.val; omega
  · show 0 + b.val = b.val; omega

theorem ownRows_ix2 (s l : Vec F S1x512 .f32) (r : Fin 2) (b : Fin 512) :
    ownRows s l (ix2 (n0 := 2) (n1 := 512) r b) = if r.val = 0 then s (ix2 (n0 := 1) (n1 := 512) 0 b) else l (ix2 (n0 := 1) (n1 := 512) 0 b) := rfl

theorem comRows_ix3 (s l : Fin 3 → Vec F S1x512 .f32) (j : Fin 3) (r : Fin 2) (b : Fin 512) :
    comRows s l (ix3 (n0 := 3) (n1 := 2) (n2 := 512) j r b)
      = if r.val = 0 then s j (ix2 (n0 := 1) (n1 := 512) 0 b) else l j (ix2 (n0 := 1) (n1 := 512) 0 b) := rfl

/-- Storing `s` over row 0 and then `l` over row 1 leaves `s` on top of `l`, whatever was there. -/
theorem own_stored (f : (cc0_scratch0 : Ref sig .tc).ty.Contents (Elt F)) (s l : Vec F S1x512 .f32) :
    (ownM.access (rowR 1) : View sig .tc _ _ _).write (Elt F)
      ((ownM.access (rowR 0) : View sig .tc _ _ _).write (Elt F) f s Finset.univ) l Finset.univ = ownRows s l := by
  funext i
  obtain ⟨r, b, rfl⟩ : ∃ (r : Fin 2) (b : Fin 512), i = ix2 r b := ⟨i 0, i 1, eq_ix2 i⟩
  rw [ownRows_ix2]
  by_cases hr : r = 0
  · subst hr
    refine Eq.trans ?_ (if_pos rfl).symm
    rw [View.write_of_not_mem, ← row_emb 0 b]
    · exact View.write_emb_of_mem _ _ (Finset.mem_univ _)
    · intro h
      obtain ⟨x, -, hx⟩ := Finset.mem_map.mp h
      have h0 := congrArg Fin.val (congrFun hx (0 : Fin 2))
      rw [ValueKit.view_emb_slice_whole_unit_val cc0_scratch0 ![(1 : Fin 2).val, 0] S1x512.size (row_inb 1)] at h0
      exact absurd h0 (by show ¬ (1 + _ = 0); omega)
  · have h1 : r = 1 := by omega
    subst h1
    rw [if_neg (by decide), ← row_emb 1 b]
    exact View.write_emb_of_mem _ _ (Finset.mem_univ _)

/-- A load of row 0 reads `s`, -/
theorem own_row0 (s l : Vec F S1x512 .f32) : ownM.view.readAt (Elt F) (rowR 0).toLoadRect (ownRows s l) = s := by
  funext i
  obtain ⟨r, b, rfl⟩ : ∃ (r : Fin 1) (b : Fin 512), i = ix2 r b := ⟨i 0, i 1, eq_ix2 i⟩
  obtain rfl : r = 0 := Subsingleton.elim _ _
  show ownRows s l ((ownM.access (rowR 0) : View sig .tc _ _ _).emb (ix2 (n0 := 1) (n1 := 512) 0 b)) = _
  rw [row_emb, ownRows_ix2]
  exact if_pos rfl
/-- a load of row 1 reads `l`. -/
theorem own_row1 (s l : Vec F S1x512 .f32) : ownM.view.readAt (Elt F) (rowR 1).toLoadRect (ownRows s l) = l := by
  funext i
  obtain ⟨r, b, rfl⟩ : ∃ (r : Fin 1) (b : Fin 512), i = ix2 r b := ⟨i 0, i 1, eq_ix2 i⟩
  obtain rfl : r = 0 := Subsingleton.elim _ _
  show ownRows s l ((ownM.access (rowR 1) : View sig .tc _ _ _).emb (ix2 (n0 := 1) (n1 := 512) 0 b)) = _
  rw [row_emb, ownRows_ix2]
  exact if_neg (by decide)

/-- A load of row `r` of slot `j` reads `comm` along it. -/
theorem com_pick (j : Fin 3) (r : Fin 2) (g : (cc0_scratch1 : Ref sig .tc).ty.Contents (Elt F)) (i : S1x1x512.Idx) :
    comM.view.readAt (Elt F) (pickR j r).toLoadRect g i = g (ix3 (n0 := 3) (n1 := 2) (n2 := 512) j r (i 2)) := by
  obtain ⟨u, v, b, rfl⟩ : ∃ (u v : Fin 1) (b : Fin 512), i = ix3 u v b := ⟨i 0, i 1, i 2, eq_ix3 i⟩
  obtain rfl : u = 0 := Subsingleton.elim _ _
  obtain rfl : v = 0 := Subsingleton.elim _ _
  show g ((comM.access (pickR j r) : View sig .tc _ _ _).emb (ix3 (n0 := 1) (n1 := 1) (n2 := 512) 0 0 b)) = _
  rw [pick_emb]
  rfl

/-- A load of row 0 of slot `j` reads `s j`, -/
theorem com_pick0 (j : Fin 3) (s l : Fin 3 → Vec F S1x512 .f32) :
    comM.view.readAt (Elt F) (pickR j 0).toLoadRect (comRows s l) = deepen (s j) := by
  funext i
  exact (com_pick j 0 _ i).trans (if_pos rfl)
/-- a load of row 1 reads `l j`. -/
theorem com_pick1 (j : Fin 3) (s l : Fin 3 → Vec F S1x512 .f32) :
    comM.view.readAt (Elt F) (pickR j 1).toLoadRect (comRows s l) = deepen (l j) := by
  funext i
  exact (com_pick j 1 _ i).trans (if_neg Nat.one_ne_zero)

/-- The copy of `s j` on top of `l j` into slot `j` leaves on the slot what `comm` is to hold there. -/
theorem slot_landed (j : Fin 3) (fd : (cc0_scratch1 : Ref sig .tc).ty.Contents (Elt F)) (s l : Fin 3 → Vec F S1x512 .f32) :
    ∀ i ∈ (slotM j).view.set,
      (slotM j).view.write (Elt F) fd (ownM.view.read (Elt F) (ownRows (s j) (l j))) Finset.univ i = comRows s l i := by
  intro i hi
  obtain ⟨x, -, rfl⟩ := Finset.mem_map.mp hi
  obtain ⟨r, b, rfl⟩ : ∃ (r : Fin 2) (b : Fin 512), x = ix2 r b := ⟨x 0, x 1, eq_ix2 x⟩
  rw [View.write_emb_of_mem _ _ (Finset.mem_univ _), slot_emb, comRows_ix3, View.read_whole]
  rfl

end Cert.CrossEntropy

end
-- ==== Proof.Protocol.lean ====
/-
# Who signals whom, how much, and what each landing hands over

Write `up j c` for the peer `j + 1` steps along `z` (`j = 0, 1, 2`). Every device runs the same program:

1. it signals the barrier semaphore of `up 0`, `up 1`, `up 2`, one unit each;
2. it computes its two rows and stores them in `own`;
3. it waits for three units on its own barrier semaphore;
4. it copies `own` into slot `j` of `comm` on `up j`, for `j = 0, 1, 2`;
5. it waits on its three receive semaphores, adds its own rows to the three slots', and stores the result;
6. it waits on its three send semaphores, so that `own` is its own again;
7. it signals the closing semaphore of `up 0`, `up 1`, `up 2` and waits for three units on its own.

Each device has eight cells, and in its one round each is paid as follows.

| cell of device `c` | paid by | units | what the payment hands `c` |
|---|---|---|---|
| `bar`, duty `j` | the device whose `up j` is `c`, its barrier signal | 1 | slot `rev j` of that device's `comm`, at any contents |
| `snd j` | `c`'s own copy to `up j`, when `own` has been read | the block's bytes | the share of `own` that the copy read through |
| `rcv j` | the device whose `up j` is `c`, its copy's landing | the block's bytes | slot `j` of `c`'s `comm`, holding that device's two rows |
| `done`, duty `j` | the device whose `up j` is `c`, its closing signal | 1 | nothing |

The device that pays duty `j` of `c`'s barrier is `up (rev j) c`, and `rev j` is the slot that `c`'s copy to it lands in: after
its barrier wait a device holds exactly the three slots it is about to write. The three copies read `own` at the same time,
and the device loads `own` while they may still be reading: `own` is held in four shares, one for each copy and one kept.

A wait must have somebody who still owes what it waits for and is not itself stuck behind the waiter: the cells are ordered
staging and `snd` lowest, then `bar`, then `rcv`, then `done`, and at every wait a device owes only cells above the one it
waits on.
-/
module

public import proofs.«01_k».proof.Proof.Contents
public import Idealize.ShloMosaic.Lib.Pipeline.Launch
public import Idealize.ShloMosaic.Lib.Pipeline.Kit
public import Idealize.ShloMosaic.Lib.Tactic

@[expose] public section

noncomputable section

namespace Cert.CrossEntropy

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost state: the staging pipeline's part and this protocol's, whose duties are numbered 0, 1, 2 -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- The eight parts a semaphore of a device plays. -/
inductive Role
  | bar | done | snd (j : Fin 3) | rcv (j : Fin 3)
deriving DecidableEq

/-- The eight, listed. -/
def roles : List Role := [.bar, .done, .snd 0, .snd 1, .snd 2, .rcv 0, .rcv 1, .rcv 2]

instance : Fintype Role := ⟨roles.toFinset, fun k => by
  rcases k with _ | _ | j | j
  · decide
  · decide
  · revert j; decide
  · revert j; decide⟩

/-- The barrier semaphore the program is given, and the semaphore of its closing handshake. -/
abbrev barS : Sem sig := (SemArray.scalar (sig.barrier 0 rfl) : Sems sig S_).sem
abbrev doneS : Sem sig := cc0_scoped0.sem
/-- The send and the receive semaphore of the copy to the peer `j + 1` steps on. -/
abbrev sendS (j : Fin 3) : DmaSem sig := match j with
  | 0 => ((cc0_scratch2.slice (Rect.unit (s := S3) ![0] S1.size inb_S3_S1_0)).squeeze S_ squeezes_S1_S_).sem
  | 1 => ((cc0_scratch2.slice (Rect.unit (s := S3) ![1] S1.size inb_S3_S1_1)).squeeze S_ squeezes_S1_S_).sem
  | 2 => ((cc0_scratch2.slice (Rect.unit (s := S3) ![2] S1.size inb_S3_S1_2)).squeeze S_ squeezes_S1_S_).sem
abbrev recvS (j : Fin 3) : DmaSem sig := match j with
  | 0 => ((cc0_scratch3.slice (Rect.unit (s := S3) ![0] S1.size inb_S3_S1_0)).squeeze S_ squeezes_S1_S_).sem
  | 1 => ((cc0_scratch3.slice (Rect.unit (s := S3) ![1] S1.size inb_S3_S1_1)).squeeze S_ squeezes_S1_S_).sem
  | 2 => ((cc0_scratch3.slice (Rect.unit (s := S3) ![2] S1.size inb_S3_S1_2)).squeeze S_ squeezes_S1_S_).sem

/-- The semaphore that plays a part. -/
def semOf : Role → SemLoc sig
  | .bar => .reg barS
  | .done => .reg doneS
  | .snd j => .dma (sendS j)
  | .rcv j => .dma (recvS j)

/-- The part a semaphore plays, if it plays one. -/
def roleOf (s : SemLoc sig) : Option Role := roles.find? fun k => decide (semOf k = s)

theorem roleOf_semOf (k : Role) : roleOf (semOf k) = some k := by revert k; decide

theorem semOf_injective : Function.Injective semOf := fun a b h => by
  have := congrArg roleOf h
  rw [roleOf_semOf, roleOf_semOf] at this
  exact Option.some.inj this

/-- Device `c`'s cell of part `k`. -/
def cell (c : Dev nD) (k : Role) : GSem nD τ sig := ((c : Thread nD τ), semOf k)

theorem cell_injective : Function.Injective fun ck : Dev nD × Role => cell ck.1 ck.2 := by
  rintro ⟨c, k⟩ ⟨d, l⟩ h
  have hc : c = d := congrArg (fun g : GSem nD τ sig => g.1.1) h
  have hk : k = l := semOf_injective (congrArg Prod.snd h)
  rw [hc, hk]

theorem cell_eq_iff (c d : Dev nD) (k l : Role) : cell c k = cell d l ↔ c = d ∧ k = l :=
  ⟨fun h => Prod.mk.inj (cell_injective (a₁ := (c, k)) (a₂ := (d, l)) h), fun ⟨h1, h2⟩ => by rw [h1, h2]⟩

/-- The units one copy of `own` pays each of its two semaphores. -/
abbrev N : ℕ := ownM.view.dmaCredit
theorem N_pos : 0 < N := View.dmaCredit_pos _ (by decide)

variable (m : (ℓ : Loc nD τ sig) → Buf (Elt F) ℓ) (ρ : Dev nD → PrngReg)

/-- The memory at launch: any contents, every semaphore at zero, any generator registers. -/
def s₀ : MemSt nD τ sig (Elt F) := ⟨m, fun _ => 0, ρ⟩

/-! ## What the buffers hold -/

/-- The activations, the block of the weight and the labels as device `c`'s staging buffers hold them. -/
def xAt (c : Dev nD) : (cc0_stg0_0 : Ref sig .tc).ty.Contents (Elt F) :=
  (win0_0.blk (0 : Fin 1)).view.read (Elt F) ((s₀ m ρ).mem ((c : Thread nD τ).loc main_arg0))
def wAt (c : Dev nD) : (cc0_stg1_0 : Ref sig .tc).ty.Contents (Elt F) :=
  (win0_1.blk (0 : Fin 1)).view.read (Elt F) ((s₀ m ρ).mem ((c : Thread nD τ).loc main_arg1))
def labAt (c : Dev nD) : (cc0_stg2_0 : Ref sig .tc).ty.Contents (Elt F) :=
  (win0_2.blk (0 : Fin 1)).view.read (Elt F) ((s₀ m ρ).mem ((c : Thread nD τ).loc main_arg2))

/-- Device `c`'s two rows: the sums of the exponentials of its logits, and its logits at the labels (zero where another
    device has the label's column). -/
def sRow (c : Dev nD) : Vec F S1x512 .f32 := k0_pay3 (k0_pay2 (xAt m ρ c) (wAt m ρ c))
def lRow (c : Dev nD) : Vec F S1x512 .f32 := k0_pay4 (zWord c) (k0_pay1 (xAt m ρ c) (wAt m ρ c)) (labAt m ρ c)

/-- `own` after the two stores. -/
def ownC (c : Dev nD) : (cc0_scratch0 : Ref sig .tc).ty.Contents (Elt F) := ownRows (sRow m ρ c) (lRow m ρ c)
/-- `comm` after the three landings: slot `j` holds the rows of the device whose `up j` is `c`. -/
def comC (c : Dev nD) : (cc0_scratch1 : Ref sig .tc).ty.Contents (Elt F) :=
  comRows (fun j => sRow m ρ (up (Fin.rev j) c)) (fun j => lRow m ρ (up (Fin.rev j) c))

/-- The result device `c` stores: the logarithm of the four sums added, less the four label rows added. -/
def outAt (c : Dev nD) : (cc0_stg3_0 : Ref sig .tc).ty.Contents (Elt F) :=
  k0_pay7
    (k0_pay5 (sRow m ρ c) (deepen (sRow m ρ (up (Fin.rev 0) c))) (deepen (sRow m ρ (up (Fin.rev 1) c)))
      (deepen (sRow m ρ (up (Fin.rev 2) c))))
    (k0_pay6 (lRow m ρ c)) (deepen (lRow m ρ (up (Fin.rev 0) c))) (deepen (lRow m ρ (up (Fin.rev 1) c)))
    (deepen (lRow m ρ (up (Fin.rev 2) c)))

/-- The share of `own` through which the copy to the peer `j + 1` steps on reads. -/
def copyShare (j : Fin 3) : PosShare TreeShare := match j with
  | 0 => fullShare.left.left
  | 1 => fullShare.left.right
  | 2 => fullShare.right.left
/-- The share of `own` a device keeps to load through. -/
def keptShare : PosShare TreeShare := fullShare.right.right

/-- Device `c`'s `own`, at a share; -/
def ownPts (c : Dev nD) (q : PosShare TreeShare) (f : Buf (Elt F) (ownM.view.loc (c : Thread nD τ))) : sProp 𝕄 :=
  ownM.view.loc (c : Thread nD τ) ↦[ownM.view.set]{q} f
/-- slot `j` of its `comm`. -/
def slotPts (c : Dev nD) (j : Fin 3) (f : Buf (Elt F) ((slotM j).view.loc (c : Thread nD τ))) : sProp 𝕄 :=
  (slotM j).view.loc (c : Thread nD τ) ↦[(slotM j).view.set]{fullShare} f

omit [FloatOps F] in
instance ownPts_storable (c : Dev nD) (q f) : BI.Storable (upEmb : UEmb _ 𝕄) (ownPts (F := F) c q f) := by unfold ownPts; infer_instance
omit [FloatOps F] in
instance slotPts_storable (c : Dev nD) (j f) : BI.Storable (upEmb : UEmb _ 𝕄) (slotPts (F := F) c j f) := by unfold slotPts; infer_instance

omit [FloatOps F] in
/-- `own` held whole is held in the three copies' shares and the kept one. -/
theorem own_shares (c : Dev nD) (f : Buf (Elt F) ((c : Thread nD τ).loc cc0_scratch0)) :
    (((c : Thread nD τ).loc cc0_scratch0) ↦{fullShare} f : sProp 𝕄)
      ⊣⊢ iprop(((ownPts c (copyShare 0) f ∗ ownPts c (copyShare 1) f) ∗ ownPts c (copyShare 2) f ∗ ownPts c keptShare f)) := by
  unfold ownPts copyShare keptShare
  rw [View.set_whole]
  exact (pointsTo_share (PosShare.mem_left_op_right fullShare)).trans
    (sep_congr (pointsTo_share (PosShare.mem_left_op_right fullShare.left)) (pointsTo_share (PosShare.mem_left_op_right fullShare.right)))

omit [FloatOps F] in
/-- `comm` held whole is held slot by slot. -/
theorem com_slots (c : Dev nD) (f : Buf (Elt F) ((c : Thread nD τ).loc cc0_scratch1)) :
    (((c : Thread nD τ).loc cc0_scratch1) ↦{fullShare} f : sProp 𝕄) = bigSep Finset.univ fun j : Fin 3 => slotPts c j f := by
  have h (j : Fin 3) : slotPts c j f = (((c : Thread nD τ).loc cc0_scratch1) ↦[(slotR j).set]{fullShare} f : sProp 𝕄) :=
    congrArg (fun I : Finset (Idx ((c : Thread nD τ).loc cc0_scratch1)) => (((c : Thread nD τ).loc cc0_scratch1) ↦[I]{fullShare} f : sProp 𝕄))
      (slot_set j)
  rw [bigSep_congr fun j _ => h j]
  exact Ring.pointsTo_blocks (ℓ := (c : Thread nD τ).loc cc0_scratch1) (fun j : Fin 3 => (slotR j).set) slots_disjoint slots_cover f

/-! ## The schedule -/

/-- The duties of a cell of each part, -/
def dutiesOf : Role → Finset (Fin 3)
  | .bar => Finset.univ
  | .done => Finset.univ
  | .snd _ => {0}
  | .rcv _ => {0}
/-- the units each is paid, -/
def unitsOf : Role → ℕ
  | .bar => 1
  | .done => 1
  | .snd _ => N
  | .rcv _ => N
/-- and what the payment hands the cell's device. -/
def payOf (c : Dev nD) : Role → Fin 3 → sProp 𝕄
  | .bar, d => iprop(∃ f, slotPts (up (Fin.rev d) c) (Fin.rev d) f)
  | .done, _ => iprop(emp)
  | .snd j, _ => ownPts c (copyShare j) (ownC m ρ c)
  | .rcv j, _ => slotPts c j (comC m ρ c)

theorem unitsOf_pos (k : Role) : 0 < unitsOf k := by
  rcases k with _ | _ | j | j
  · exact Nat.one_pos
  · exact Nat.one_pos
  · exact N_pos
  · exact N_pos

instance payOf_storable (c : Dev nD) (k : Role) (d : Fin 3) : BI.Storable (upEmb : UEmb _ 𝕄) (payOf m ρ c k d) := by
  rcases k with _ | _ | j | j <;> unfold payOf <;> infer_instance

/-- One round of payments at every cell of the table. -/
def Rd : Rounds.Schedule (GSem nD τ sig) (Fin 3) 𝕄 where
  duties g r := if r = 0 ∧ g.1.2 = .tc then (roleOf g.2).elim ∅ dutiesOf else ∅
  unitless _ := False
  amount g _ _ := (roleOf g.2).elim 1 unitsOf
  payload g _ d := (roleOf g.2).elim iprop(emp) fun k => payOf m ρ g.1.1 k d
  amount_pos g _ _ _ := by
    cases h : roleOf g.2 with
    | none => exact Nat.one_pos
    | some k => exact unitsOf_pos k

instance Rd_storable (g : GSem nD τ sig) (r : ℕ) (d : Fin 3) : BI.Storable (upEmb : UEmb _ 𝕄) ((Rd (F := F) m ρ).payload g r d) := by
  show BI.Storable upEmb ((roleOf g.2).elim iprop(emp) fun k => payOf m ρ g.1.1 k d)
  cases roleOf g.2 with
  | none => show BI.Storable upEmb iprop(emp); infer_instance
  | some k => show BI.Storable upEmb (payOf m ρ g.1.1 k d); infer_instance

section Table
variable (c : Dev nD) (k : Role)

theorem duties_cell : (Rd (F := F) m ρ).duties (cell c k) 0 = dutiesOf k := by
  show (if 0 = 0 ∧ (cell c k).1.2 = .tc then (roleOf (semOf k)).elim ∅ dutiesOf else ∅) = _
  rw [if_pos ⟨rfl, rfl⟩, roleOf_semOf]; rfl
theorem duties_after (g : GSem nD τ sig) (r : ℕ) (h : 1 ≤ r) : (Rd (F := F) m ρ).duties g r = ∅ := by
  show (if r = 0 ∧ g.1.2 = .tc then (roleOf g.2).elim ∅ dutiesOf else ∅) = _
  exact if_neg fun h' => by omega
theorem amount_cell (d : Fin 3) : (Rd (F := F) m ρ).amount (cell c k) 0 d = unitsOf k := by
  show (roleOf (semOf k)).elim 1 unitsOf = _
  rw [roleOf_semOf]; rfl
theorem payload_cell (d : Fin 3) : (Rd (F := F) m ρ).payload (cell c k) 0 d = payOf m ρ c k d := by
  show (roleOf (semOf k)).elim iprop(emp) (fun k => payOf m ρ c k d) = _
  rw [roleOf_semOf]; rfl
/-- A cell's round comes to its duties' number times their units. -/
theorem expect_cell : (Rd (F := F) m ρ).expect (cell c k) 0 = (dutiesOf k).card * unitsOf k := by
  unfold Schedule.expect Schedule.amountOf
  rw [duties_cell, Finset.sum_congr rfl fun d _ => amount_cell m ρ c k d, Finset.sum_const, smul_eq_mul]
theorem rest_cell : bigSep ((Rd (F := F) m ρ).duties (cell c k) 0 \ ∅) (fun d => (Rd (F := F) m ρ).payload (cell c k) 0 d)
    = bigSep (dutiesOf k) (payOf m ρ c k) := by
  rw [Finset.sdiff_empty, duties_cell]
  exact bigSep_congr fun d _ => payload_cell m ρ c k d

end Table

/-! ## What a device owes, and the order of the cells -/

/-- Debts, the next to be paid first. -/
def owed : List (GSem nD τ sig × ℕ) → CellTallies nD τ sig Unit
  | [] => 0
  | d :: l => owed l + tallyAt d.1 () d.2

theorem owed_apply (l : List (GSem nD τ sig × ℕ)) (g : GSem nD τ sig) :
    owed l g () = (l.map fun d => if g = d.1 then d.2 else 0).sum := by
  induction l with
  | nil => rfl
  | cons d l ih =>
    show (owed l + tallyAt d.1 () d.2) g () = _
    rw [Pi.add_apply, Finsupp.add_apply, ih, tallyAt_apply, List.map_cons, List.sum_cons, Nat.add_comm]
    congr 1
    exact if_congr ⟨fun h => h.1, fun h => ⟨h, rfl⟩⟩ rfl rfl

theorem owed_pos {l : List (GSem nD τ sig × ℕ)} {g : GSem nD τ sig} {u : Unit} (h : 0 < owed l g u) : ∃ d ∈ l, g = d.1 := by
  by_contra hn
  rw [owed_apply, List.sum_eq_zero] at h
  · exact absurd h (Nat.lt_irrefl 0)
  · intro x hx
    obtain ⟨d, hd, rfl⟩ := List.mem_map.mp hx
    exact if_neg fun e => hn ⟨d, hd, e⟩

/-- What device `c` owes at launch, in the order in which it pays. -/
def debts (c : Dev nD) : List (GSem nD τ sig × ℕ) :=
  [(cell (up 0 c) .bar, 1), (cell (up 1 c) .bar, 1), (cell (up 2 c) .bar, 1),
   (cell (up 0 c) (.rcv 0), N), (cell (up 1 c) (.rcv 1), N), (cell (up 2 c) (.rcv 2), N),
   (cell (up 0 c) .done, 1), (cell (up 1 c) .done, 1), (cell (up 2 c) .done, 1)]

/-- The place of each part in the order of waits. -/
def rank : Role → ℕ
  | .bar => 1
  | .done => 3
  | .snd _ => 0
  | .rcv _ => 2

def L (g : GSem nD τ sig) : Finset Unit := if g.1.2 = .tc then {()} else ∅
def lv (g : GSem nD τ sig) (_ : Unit) : ℕ := (roleOf g.2).elim 0 rank

theorem L_of_ne (g : GSem nD τ sig) (h : g.1.2 ≠ .tc) : L g = ∅ := if_neg h
theorem lv_cell (c : Dev nD) (k : Role) (u : Unit) : lv (cell c k) u = rank k := by
  show (roleOf (semOf k)).elim 0 rank = _
  rw [roleOf_semOf]; rfl

omit [FloatOps F] in
/-- A device may wait on a cell when everything it owes is owed to cells of parts further up the order. -/
theorem may_wait (c : Dev nD) (sm : SemLoc sig) (l : List (GSem nD τ sig × ℕ))
    (h : ∀ d ∈ l, d.1.1.2 = .tc ∧ (roleOf sm).elim 0 rank < lv d.1 ()) :
    (levAts L lv : sProp 𝕄) ⊢ MayWait (c : Thread nD τ) sm () (owed l) :=
  MayOwe.of_cut (L := L) (lev := lv) ((roleOf sm).elim 0 rank)
    (fun p hp => by rw [Finset.mem_singleton.mp hp]; exact Finset.mem_singleton_self _)
    (fun g u hg => by
      obtain ⟨d, hd, rfl⟩ := owed_pos hg
      unfold L; rw [if_pos (h d hd).1]; exact Finset.mem_singleton_self _)
    (fun p hp => by rw [Finset.mem_singleton.mp hp]; exact le_rfl)
    (fun g u hg => by
      obtain ⟨d, hd, rfl⟩ := owed_pos hg
      exact (h d hd).2)

omit [FloatOps F] in
/-- The same for a cell of the table and debts to cells of the table. -/
theorem may_wait_cell (c : Dev nD) (k : Role) (l : List ((Dev nD × Role) × ℕ)) (h : ∀ d ∈ l, rank k < rank d.1.2) :
    (levAts L lv : sProp 𝕄) ⊢ MayWait (c : Thread nD τ) (semOf k) () (owed (l.map fun d => (cell d.1.1 d.1.2, d.2))) :=
  may_wait c (semOf k) _ fun d hd => by
    obtain ⟨e, he, rfl⟩ := List.mem_map.mp hd
    refine ⟨rfl, ?_⟩
    rw [lv_cell, roleOf_semOf]
    exact h e he

end Cert.CrossEntropy

end
-- ==== Proof.Steps.lean ====
/-
# The four kinds of step the protocol has

One rule each for a signal to a peer, a copy to a peer, a wait on a cell of the device's own by the regular semaphore and one
by a transfer's. What a step needs of the whole system — every cell's invariant, and that every cell is open — is one
persistent assertion, `records`, the same for every device; what a device still owes is `owing`.
-/
module

public import proofs.«01_k».proof.Proof.Protocol

@[expose] public section

noncomputable section

namespace Cert.CrossEntropy

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- Every cell's invariant, under the names `K`, and that every cell has come to its one round. -/
def records (K : Dev nD × Role → ℕ) : sProp 𝕄 :=
  iprop((bigSep Finset.univ fun ck : Dev nD × Role => cellInv ER (Rd m ρ) (K ck) (cell ck.1 ck.2))
    ∗ bigSep Finset.univ fun ck : Dev nD × Role => reached ER (cell ck.1 ck.2) 0)

instance records_persistent (K : Dev nD × Role → ℕ) : BI.Persistent (records m ρ K) := by unfold records; infer_instance

theorem records_inv (K : Dev nD × Role → ℕ) (c : Dev nD) (k : Role) : records m ρ K ⊢ cellInv ER (Rd m ρ) (K (c, k)) (cell c k) := by
  unfold records; iintro ⟨H, -⟩
  iapply (show _ ⊢ cellInv ER (Rd m ρ) (K (c, k)) (cell c k) from
    bigSep_elim (Φ := fun ck : Dev nD × Role => (cellInv ER (Rd m ρ) (K ck) (cell ck.1 ck.2) : sProp 𝕄)) (Finset.mem_univ (c, k))); iexact H
theorem records_reached (K : Dev nD × Role → ℕ) (c : Dev nD) (k : Role) : records m ρ K ⊢ reached ER (cell c k) 0 := by
  unfold records; iintro ⟨-, H⟩
  iapply (show _ ⊢ reached ER (cell c k) 0 from
    bigSep_elim (Φ := fun ck : Dev nD × Role => (reached ER (cell ck.1 ck.2) 0 : sProp 𝕄)) (Finset.mem_univ (c, k))); iexact H

/-- Device `c` owes the debts `l`, whatever waits it has behind it. -/
def owing (c : Dev nD) (l : List (GSem nD τ sig × ℕ)) : sProp 𝕄 := iprop(∃ W, owes (c : Thread nD τ) (owed l) W)

section
variable (K : Dev nD × Role → ℕ)

/-- A signal of one unit to the cell of the peer `j + 1` steps on pays that cell's duty `j` and hands in its payload. -/
theorem signal_peer (k : Role) (hk : k = .bar ∨ k = .done) (s : Sem sig) (hs : semOf k = .reg s) (j : Fin 3) (c n : Dev nD)
    (hn : n = up j c) (u : ℤ) (hu : u = ((1 : ℕ) : ℤ)) (l : List (GSem nD τ sig × ℕ)) {α : Type} {Q : α → sProp 𝕄}
    {p : PUnit → Prog (TpuEff nD τ sig (Elt F) Λ₀ .tc) α} :
    iprop(records m ρ K ∗ owing c ((cell (up j c) k, 1) :: l) ∗ dutyTok ER (cell (up j c) k) 0 j ∗ payOf m ρ (up j c) k j)
      ⊢ iprop((owing c l -∗ wp frame (wpE (defs₀ (F := F)) 𝒱₀ (c : Thread nD τ) none) Set.univ (p ⟨⟩) Q)
          -∗ wp frame (wpE (defs₀ (F := F)) 𝒱₀ (c : Thread nD τ) none) Set.univ
              (.op (.semSignal (n : Thread nD τ) s u) p) Q) := by
  subst hn hu
  have hc : ((up j c : Thread nD τ), SemLoc.reg s) = cell (up j c) k := by unfold cell; rw [hs]
  have hd : j ∈ (Rd (F := F) m ρ).duties ((up j c : Thread nD τ), SemLoc.reg s) 0 := by
    rw [hc, duties_cell]; rcases hk with rfl | rfl <;> exact Finset.mem_univ j
  have ha : (Rd (F := F) m ρ).amount ((up j c : Thread nD τ), SemLoc.reg s) 0 j = 1 := by
    rw [hc, amount_cell]; rcases hk with rfl | rfl <;> rfl
  have step := fun W => Rounds.wp_signal (defs := defs₀ (F := F)) (Γ := ∅) (Q := Q) (k := p) (W := W) (Es := Set.univ) 𝒱₀ ER (Rd m ρ) (c : Thread nD τ) none (κ := K (up j c, k)) hd ha ()
    (O₀ := owed ((cell (up j c) k, 1) :: l)) (owed l) (by rw [hc]; rfl)
  rw [hc] at step
  unfold owing
  iintro ⟨#HR, ⟨%W, HO⟩, Ht, Hp⟩ Hk
  iapply (step W) $$ [HO Ht Hp]
  · isplitr; · iapply (records_inv m ρ K (up j c) k); iexact HR
    isplitl [HO]; · iexact HO
    isplitl [Ht]; · iexact Ht
    isplitl [Hp]; · rw [payload_cell]; iexact Hp
    iapply (records_reached m ρ K (up j c) k); iexact HR
  iintro HO
  iapply Hk; iexists W; iexact HO

/-- A wait for all of a cell of the device's own, paid for, brings what its duties' payments handed over; the cell is then
    closed, and its counter is the device's again at zero. -/
theorem wait_own (k : Role) (c : Dev nD) {w : TpuEff nD τ sig (Elt F) Λ₀ .tc PUnit} (u : ℕ) (hu : u = (dutiesOf k).card * unitsOf k)
    (hw : ∀ Kt : PUnit → sProp 𝕄, wpE (defs₀ (F := F)) 𝒱₀ (c : Thread nD τ) none Set.univ w Kt = waitSpec (c : Thread nD τ) Set.univ (semOf k) u Kt)
    (l : List ((Dev nD × Role) × ℕ)) (hl : (l.all fun d => decide (rank k < rank d.1.2)) = true)
    (lc : List (GSem nD τ sig × ℕ)) (hlc : lc = l.map fun d => (cell d.1.1 d.1.2, d.2)) {α : Type} {Q : α → sProp 𝕄}
    {p : PUnit → Prog (TpuEff nD τ sig (Elt F) Λ₀ .tc) α} :
    iprop(records m ρ K ∗ levAts L lv ∗ cred (tallyAt (cell c k) () u) ∗ owing c lc ∗ atPos ER (cell c k) 0 ∅ 0)
      ⊢ iprop(((owing c lc ∗ semVal (cell c k) 0 ∗ bigSep (dutiesOf k) (payOf m ρ c k))
            -∗ wp frame (wpE (defs₀ (F := F)) 𝒱₀ (c : Thread nD τ) none) Set.univ (p ⟨⟩) Q)
          -∗ wp frame (wpE (defs₀ (F := F)) 𝒱₀ (c : Thread nD τ) none) Set.univ (.op w p) Q) := by
  subst hlc
  unfold owing
  iintro ⟨#HR, #Hlev, Hc, ⟨%W, HO⟩, Hat⟩ Hk
  iapply (Rounds.wp_wait_rest_token (sm := semOf k) 𝒱₀ ER (Rd m ρ) (c : Thread nD τ) none (κ := K (c, k)) hw (Set.mem_univ _) ()
      (O := owed (l.map fun d => (cell d.1.1 d.1.2, d.2))) (W := W) (R := 0) (m := 0) (T := ∅)
      (by rw [Nat.zero_add, hu]; exact (expect_cell m ρ c k).symm)) $$ [Hc HO Hat]
  · isplitr; · iapply (records_inv m ρ K c k); iexact HR
    isplitl [Hc]; · iexact Hc
    isplitl [HO]; · iexact HO
    isplitr; · iapply (may_wait_cell c k l fun d hd => of_decide_eq_true (List.all_eq_true.mp hl d hd)); iexact Hlev
    iexact Hat
  iintro ⟨HO, Hat, -, Hp⟩
  imod (Rounds.cell_close ER (Rd m ρ) (Set.mem_univ (K (c, k))) (fun h => h) (R := 0 + 1) (fun r hr => duties_after m ρ (cell c k) r hr)) $$ [Hat] with Hz
  · isplitr; · iapply (records_inv m ρ K c k); iexact HR
    iexact Hat
  iapply Hk
  isplitl [HO]; · iexists _; iexact HO
  isplitl [Hz]; · iexact Hz
  iapply (Entails.of_eq (rest_cell m ρ c k)); iexact Hp

/-- The copy of `own` into slot `j` of the peer `j + 1` steps on: the share it reads through comes back by the send
    semaphore, the slot goes to the peer by its receive semaphore, holding this device's rows. -/
theorem copy_peer (j : Fin 3) (c n : Dev nD) (hn : n = up j c)
    {hsc : (slotM j : Memref sig (Dev.tc n : Thread nD τ).2.kind .vmem S2x512 .f32).view.ref.isScScratch = false}
    {hsrc : (ownM : Memref sig .tc .vmem S2x512 .f32).view.WordExact} {hdst : (slotM j).view.WordExact}
    {hsem : DmaTarget.Typed .vmem (.dma (recvS j)) (.remote (Dev.tc n : Thread nD τ) (slotM j) (.dma (sendS j)) hsc)}
    (l : List (GSem nD τ sig × ℕ)) {α : Type} {Q : α → sProp 𝕄}
    {p : PUnit → Prog (TpuEff nD τ sig (Elt F) Λ₀ .tc) α} :
    iprop(records m ρ K ∗ ownPts c (copyShare j) (ownC m ρ c) ∗ (∃ f, slotPts (up j c) j f) ∗ owing c ((cell (up j c) (.rcv j), N) :: l)
        ∗ dutyTok ER (cell c (.snd j)) 0 0 ∗ dutyTok ER (cell (up j c) (.rcv j)) 0 0)
      ⊢ iprop(((cred (tallyAt (cell c (.snd j)) () N) ∗ owing c l) -∗ wp frame (wpE (defs₀ (F := F)) 𝒱₀ (c : Thread nD τ) none) Set.univ (p ⟨⟩) Q)
          -∗ wp frame (wpE (defs₀ (F := F)) 𝒱₀ (c : Thread nD τ) none) Set.univ
              (.op (.enqueueDma ownM (.remote (Dev.tc n : Thread nD τ) (slotM j) (.dma (sendS j)) hsc) (.dma (recvS j)) hsrc hdst hsem) p) Q) := by
  subst hn
  have step := fun W fd => Rounds.wp_send_pointsTo (defs := defs₀ (F := F)) (Γ := ∅) (Q := Q) (k := p) (W := W) (Es := Set.univ) (hsc := hsc) (hsrc := hsrc) (hdst := hdst) (hsem := hsem)
    𝒱₀ ER (Rd m ρ) (c : Thread nD τ) none (κ₁ := K (c, .snd j)) (κ₂ := K (up j c, .rcv j))
    (r₁ := 0) (r₂ := 0) (d₁ := 0) (d₂ := 0) (q := copyShare j) (fs := ownC m ρ c) (fd := fd)
    ((Finset.ext_iff.mp (duties_cell m ρ c (.snd j)) 0).mpr (Finset.mem_singleton_self _))
    ((Finset.ext_iff.mp (duties_cell m ρ (up j c) (.rcv j)) 0).mpr (Finset.mem_singleton_self _))
    () () N rfl (amount_cell m ρ c (.snd j) 0) (amount_cell m ρ (up j c) (.rcv j) 0) (O₀ := owed ((cell (up j c) (.rcv j), N) :: l)) (owed l) rfl
    (Entails.of_eq (payload_cell m ρ c (.snd j) 0).symm)
    (by
      refine Entails.of_eq (Eq.trans ?_ (payload_cell m ρ (up j c) (.rcv j) 0).symm)
      show _ = slotPts (up j c) j (comC m ρ (up j c))
      unfold slotPts comC ownC
      refine pointsTo_congr fun i hi => ?_
      have h := slot_landed j fd (fun j' => sRow m ρ (up (Fin.rev j') (up j c))) (fun j' => lRow m ρ (up (Fin.rev j') (up j c))) i hi
      beta_reduce at h
      rw [up_rev_up] at h
      exact h)
  unfold owing ownPts slotPts
  iintro ⟨#HR, Hs, ⟨%fd, Hd⟩, ⟨%W, HO⟩, Ht1, Ht2⟩ Hk
  iapply (step W fd) $$ [Hs Hd HO Ht1 Ht2]
  · isplitr; · iapply (records_inv m ρ K c (.snd j)); iexact HR
    isplitr; · iapply (records_inv m ρ K (up j c) (.rcv j)); iexact HR
    isplitl [Hs]; · iexact Hs
    isplitl [Hd]; · iexact Hd
    isplitl [HO]; · iexact HO
    isplitl [Ht1]; · iexact Ht1
    isplitr; · iapply (records_reached m ρ K c (.snd j)); iexact HR
    isplitl [Ht2]; · iexact Ht2
    iapply (records_reached m ρ K (up j c) (.rcv j)); iexact HR
  iintro ⟨Hc, HO⟩
  iapply Hk
  isplitl [Hc]; · iexact Hc
  iexists W; iexact HO

end

end Cert.CrossEntropy

end
-- ==== Proof.Body.lean ====
/-
# One device's program

The body of the kernel, run from its start — the protocol's ghost state, the credits for the waits its own debts do not cover,
the two scratch buffers and the staged operands — to its end: the result staged, both scratch buffers and all eight semaphore
counters back, the counters at zero.
-/
module

public import proofs.«01_k».proof.Proof.Steps
public import proofs.«01_k».proof.Proof.Gen.KernelIdeal.Launch

@[expose] public section

noncomputable section

namespace Cert.CrossEntropy

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ

omit [FloatOps F] in
theorem bigSep_roles (Φ : Role → sProp 𝕄) :
    bigSep Finset.univ Φ = iprop(Φ .bar ∗ Φ .done ∗ Φ (.snd 0) ∗ Φ (.snd 1) ∗ Φ (.snd 2) ∗ Φ (.rcv 0) ∗ Φ (.rcv 1) ∗ Φ (.rcv 2)) :=
  bigSep_univ_eq_bigSepL roles (by decide) (by decide) Φ

/-- The tokens of the duties device `c` pays: the three barrier signals', its own three sends', the three landings' and the
    three closing signals'. -/
def payToks (c : Dev nD) : sProp 𝕄 :=
  iprop((bigSep Finset.univ fun j : Fin 3 => dutyTok ER (cell (up j c) .bar) 0 j)
    ∗ (bigSep Finset.univ fun j : Fin 3 => dutyTok ER (cell c (.snd j)) 0 0)
    ∗ (bigSep Finset.univ fun j : Fin 3 => dutyTok ER (cell (up j c) (.rcv j)) 0 0)
    ∗ (bigSep Finset.univ fun j : Fin 3 => dutyTok ER (cell (up j c) .done) 0 j))

/-- Its positions at its own eight cells. -/
def poss (c : Dev nD) : sProp 𝕄 := bigSep Finset.univ fun k : Role => atPos ER (cell c k) 0 ∅ 0

/-- The credits the launch gives it: for its barrier wait, its three receives and its closing wait. -/
def credits (c : Dev nD) : sProp 𝕄 :=
  iprop(cred (tallyAt (cell c .bar) () 3) ∗ cred (tallyAt (cell c .done) () 3)
    ∗ bigSep Finset.univ fun j : Fin 3 => cred (tallyAt (cell c (.rcv j)) () N))

def ghost (K : Dev nD × Role → ℕ) (c : Dev nD) : sProp 𝕄 := iprop(records m ρ K ∗ poss c ∗ payToks c)

/-- What device `c` starts from. -/
def start (c : Dev nD) : sProp 𝕄 := iprop((∃ K, ghost m ρ K c) ∗ credits c ∗ levAts L lv)

/-- The two scratch buffers, at any contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m ρ c ∗ scratch c)
/-- What it ends with. -/
def Φ₁ (c : Dev nD) : sProp 𝕄 := iprop(scratch c ∗ bigSep Finset.univ fun k : Role => semVal (cell c k) 0)

/-- The staged buffers around the one point of the launch. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xAt m ρ c
    | ⟨1, _⟩ => wAt m ρ c
    | ⟨2, _⟩ => labAt m ρ c
    | ⟨3, _⟩ => outAt m ρ c
  Φ t := match t with
    | ⟨0, _⟩ => Φ₀ m ρ c
    | ⟨_ + 1, _⟩ => Φ₁ c
  q _ := fullShare
  owed t := match t with
    | ⟨0, _⟩ => owed (debts c)
    | ⟨_ + 1, _⟩ => 0

section Body

omit [FloatOps F] in
theorem zero2 : (![0, 0] : Fin 2 → Nat) = fun _ => 0 := funext fun a => by fin_cases a <;> rfl
omit [FloatOps F] in
theorem zero1 : (![0] : Fin 1 → Nat) = fun _ => 0 := funext fun a => by fin_cases a; rfl

abbrev xR : Rect S512x1024 := Rect.unit (s := S512x1024) ![0, 0] S512x1024.size inb_S512x1024_S512x1024_0_0
abbrev wR : Rect S1024x8192 := Rect.unit (s := S1024x8192) ![0, 0] S1024x8192.size inb_S1024x8192_S1024x8192_0_0
abbrev vR : Rect S512 := Rect.unit (s := S512) ![0] S512.size inb_S512_S512_0

omit [FloatOps F] in
theorem read_x (f : (cc0_stg0_0 : Ref sig .tc).ty.Contents (Elt F)) : xM.view.readAt (Elt F) xR.toLoadRect f = f :=
  Memref.readAt_unit_zero (Elt F) cc0_stg0_0 zero2 _ f
omit [FloatOps F] in
theorem read_w (f : (cc0_stg1_0 : Ref sig .tc).ty.Contents (Elt F)) : wM.view.readAt (Elt F) wR.toLoadRect f = f :=
  Memref.readAt_unit_zero (Elt F) cc0_stg1_0 zero2 _ f
omit [FloatOps F] in
theorem read_lab (f : (cc0_stg2_0 : Ref sig .tc).ty.Contents (Elt F)) : labM.view.readAt (Elt F) vR.toLoadRect f = f :=
  Memref.readAt_unit_zero (Elt F) cc0_stg2_0 zero1 _ f
omit [FloatOps F] in
theorem write_out (f w : (cc0_stg3_0 : Ref sig .tc).ty.Contents (Elt F)) :
    (outM.access vR : View sig .tc _ _ _).write (Elt F) f w Finset.univ = w :=
  Memref.write_access_unit_zero_univ (Elt F) cc0_stg3_0 zero1 _ f w

/-! What each load of a row reads, and what the two stores leave. -/

abbrev ro0 : Rect S2x512 := Rect.unit (s := S2x512) ![0, 0] S1x512.size inb_S2x512_S1x512_0_0
abbrev ro1 : Rect S2x512 := Rect.unit (s := S2x512) ![1, 0] S1x512.size inb_S2x512_S1x512_1_0

theorem own_after (c : Dev nD) (f : (cc0_scratch0 : Ref sig .tc).ty.Contents (Elt F)) :
    (ownM.access ro1 : View sig .tc _ _ _).write (Elt F)
      ((ownM.access ro0 : View sig .tc _ _ _).write (Elt F) f (k0_pay3 (k0_pay2 (xAt m ρ c) (wAt m ρ c))) Finset.univ)
      (k0_pay4 (Scalar.remsi (Scalar.divsi (Dev.word c) 1#32) 4#32) (k0_pay1 (xAt m ρ c) (wAt m ρ c)) (labAt m ρ c)) Finset.univ
      = ownC m ρ c := own_stored f (sRow m ρ c) (lRow m ρ c)
theorem read_own0 (c : Dev nD) : ownM.view.readAt (Elt F) ro0.toLoadRect (ownC m ρ c) = sRow m ρ c := own_row0 _ _
theorem read_own1 (c : Dev nD) : ownM.view.readAt (Elt F) ro1.toLoadRect (ownC m ρ c) = lRow m ρ c := own_row1 _ _
theorem read_com00 (c : Dev nD) :
    comM.view.readAt (Elt F) (Rect.unit (s := S3x2x512) ![0, 0, 0] S1x1x512.size inb_S3x2x512_S1x1x512_0_0_0).toLoadRect (comC m ρ c)
      = deepen (sRow m ρ (up (Fin.rev 0) c)) := com_pick0 0 _ _
theorem read_com10 (c : Dev nD) :
    comM.view.readAt (Elt F) (Rect.unit (s := S3x2x512) ![1, 0, 0] S1x1x512.size inb_S3x2x512_S1x1x512_1_0_0).toLoadRect (comC m ρ c)
      = deepen (sRow m ρ (up (Fin.rev 1) c)) := com_pick0 1 _ _
theorem read_com20 (c : Dev nD) :
    comM.view.readAt (Elt F) (Rect.unit (s := S3x2x512) ![2, 0, 0] S1x1x512.size inb_S3x2x512_S1x1x512_2_0_0).toLoadRect (comC m ρ c)
      = deepen (sRow m ρ (up (Fin.rev 2) c)) := com_pick0 2 _ _
theorem read_com01 (c : Dev nD) :
    comM.view.readAt (Elt F) (Rect.unit (s := S3x2x512) ![0, 1, 0] S1x1x512.size inb_S3x2x512_S1x1x512_0_1_0).toLoadRect (comC m ρ c)
      = deepen (lRow m ρ (up (Fin.rev 0) c)) := com_pick1 0 _ _
theorem read_com11 (c : Dev nD) :
    comM.view.readAt (Elt F) (Rect.unit (s := S3x2x512) ![1, 1, 0] S1x1x512.size inb_S3x2x512_S1x1x512_1_1_0).toLoadRect (comC m ρ c)
      = deepen (lRow m ρ (up (Fin.rev 1) c)) := com_pick1 1 _ _
theorem read_com21 (c : Dev nD) :
    comM.view.readAt (Elt F) (Rect.unit (s := S3x2x512) ![2, 1, 0] S1x1x512.size inb_S3x2x512_S1x1x512_2_1_0).toLoadRect (comC m ρ c)
      = deepen (lRow m ρ (up (Fin.rev 2) c)) := com_pick1 2 _ _

/-- `own` held through one share is read through it. -/
theorem ownPts_eq (c : Dev nD) (q : PosShare TreeShare) (f : Buf (Elt F) ((c : Thread nD τ).loc cc0_scratch0)) :
    (ownPts c q f : sProp 𝕄) = (((c : Thread nD τ).loc cc0_scratch0) ↦{q} f) := by
  unfold ownPts; rw [View.set_whole]

theorem fetch_in (w : Fin cfg0.W) (hw : w.val < 3) (t : Fin cfg0.N) : (cfg0.win w).fetch t = true := by
  rw [fin_N0 t]
  revert w; decide

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- What the body runs from, the invariants' names chosen, -/
def bodyPre (K : Dev nD × Role → ℕ) (c : Dev nD) : sProp 𝕄 :=
  iprop((ghost m ρ K c ∗ credits c ∗ levAts L lv ∗ scratch c)
    ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

/-- and what it runs to. -/
def bodyPost (c : Dev nD) : sProp 𝕄 :=
  iprop(Φ₁ c ∗ (dats m ρ 0 c).owesAt () t0_0.succ ∗ stg c cc0_stg0_0 (xAt m ρ c) ∗ stg c cc0_stg1_0 (wAt m ρ c)
    ∗ stg c cc0_stg2_0 (labAt m ρ c) ∗ stg c cc0_stg3_0 (outAt m ρ c))

/-- The body of the kernel, on the buffers and semaphores the launch gives it. -/
abbrev bodyProg : Prog (TpuEff nD τ sig (Elt F) Λ₀ .tc) PUnit :=
  cc0_body (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_scratch0) (Memref.isWhole_whole _) (Memref.whole cc0_scratch1) (Memref.isWhole_whole _)
    cc0_scratch2 cc0_scratch3 cc0_scoped0

set_option maxHeartbeats 4000000 in
/-- The body, effect by effect in program order. -/
theorem sound_body (K : Dev nD × Role → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ bodyProg Kt := by
  unfold bodyProg
  rw [cc0_body_eq_skeleton]; unfold cc0_body_skel
  rw [k0_part1_eq_skeleton, k0_part2_eq_skeleton, k0_part3_eq_skeleton, k0_part4_eq_skeleton, k0_part5_eq_skeleton, k0_part6_eq_skeleton,
    k0_part7_eq_skeleton, k0_part8_eq_skeleton]
  unfold k0_part1_skel k0_part2_skel k0_part3_skel k0_part4_skel k0_part5_skel k0_part6_skel k0_part7_skel k0_part8_skel
  simp only [semSignalWord, semWaitWord, Prog.lift, Prog.bind_op, Prog.bind_ret, Prog.pure_eq_ret, wp_deviceId]
  unfold bodyPre ghost credits poss payToks scratch
  simp only [bigSep_fin3, bigSep_roles]
  iintro ⟨⟨⟨⟨#HR, ⟨PB, PD, PS0, PS1, PS2, PV0, PV1, PV2⟩, ⟨TB0, TB1, TB2⟩, ⟨TS0, TS1, TS2⟩, ⟨TV0, TV1, TV2⟩, ⟨TD0, TD1, TD2⟩⟩,
      ⟨CB, CD, ⟨CV0, CV1, CV2⟩⟩, #Hlev, ⟨⟨%fo, Hown⟩, ⟨%fc, Hcom⟩⟩⟩,
    Ho, ⟨%d0, %g0, %hg0, Hx⟩, ⟨%d1, %g1, %hg1, Hw⟩, ⟨%d2, %g2, %hg2, Hlab⟩, ⟨%d3, %g3, %hg3, Hout⟩⟩, Hk⟩
  obtain rfl : g0 = xAt m ρ c := by rw [hg0]; unfold Dat.before; rw [if_pos (fetch_in (0 : Fin 4) (by decide) t0_0)]; rfl
  obtain rfl : g1 = wAt m ρ c := by rw [hg1]; unfold Dat.before; rw [if_pos (fetch_in (1 : Fin 4) (by decide) t0_0)]; rfl
  obtain rfl : g2 = labAt m ρ c := by rw [hg2]; unfold Dat.before; rw [if_pos (fetch_in (2 : Fin 4) (by decide) t0_0)]; rfl
  unfold Dat.owesAt Pipeline.owesWithin
  icases Ho with ⟨%W, %hW, HO'⟩
  ihave HO := (show owes (c : Thread nD τ) ((dats m ρ 0 c).owed t0_0.castSucc) W ⊢ (owing c (debts c) : sProp 𝕄) from by
    unfold owing; iintro H; iexists W; iexact H) $$ HO'
  unfold debts
  -- `comm` is cut in its slots: slot `rev j` goes with the signal to the peer `j + 1` steps on
  ihave Hslots := (Entails.of_eq ((com_slots c fc).trans (bigSep_fin3 _))) $$ Hcom
  icases Hslots with ⟨SL0, SL1, SL2⟩
  iapply (signal_peer m ρ K .bar (.inl rfl) barS rfl 0 c _ (bar_dev0 c) _ rfl _) $$ [HO TB0 SL2]
  · isplitr; · iexact HR
    isplitl [HO]; · iexact HO
    isplitl [TB0]; · iexact TB0
    rw [show payOf m ρ (up 0 c) .bar 0 = iprop(∃ f, slotPts (up (Fin.rev 0) (up 0 c)) (Fin.rev 0) f) from rfl, up_rev_up]
    iexists fc; iexact SL2
  iintro HO
  iapply (signal_peer m ρ K .bar (.inl rfl) barS rfl 1 c _ (bar_dev1 c) _ rfl _) $$ [HO TB1 SL1]
  · isplitr; · iexact HR
    isplitl [HO]; · iexact HO
    isplitl [TB1]; · iexact TB1
    rw [show payOf m ρ (up 1 c) .bar 1 = iprop(∃ f, slotPts (up (Fin.rev 1) (up 1 c)) (Fin.rev 1) f) from rfl, up_rev_up]
    iexists fc; iexact SL1
  iintro HO
  iapply (signal_peer m ρ K .bar (.inl rfl) barS rfl 2 c _ (bar_dev2 c) _ rfl _) $$ [HO TB2 SL0]
  · isplitr; · iexact HR
    isplitl [HO]; · iexact HO
    isplitl [TB2]; · iexact TB2
    rw [show payOf m ρ (up 2 c) .bar 2 = iprop(∃ f, slotPts (up (Fin.rev 2) (up 2 c)) (Fin.rev 2) f) from rfl, up_rev_up]
    iexists fc; iexact SL0
  iintro HO
  -- the operands, and the two rows stored
  iapply (wp_load 𝒱₀ (c : Thread nD τ) none Set.univ (m := xM) (Finset.subset_univ _)) $$ Hx; iintro Hx
  rw [read_x]
  iapply (wp_load 𝒱₀ (c : Thread nD τ) none Set.univ (m := wM) (Finset.subset_univ _)) $$ Hw; iintro Hw
  rw [read_w]
  iapply (wp_load 𝒱₀ (c : Thread nD τ) none Set.univ (m := labM) (Finset.subset_univ _)) $$ Hlab; iintro Hlab
  rw [read_lab]
  iapply (wp_load 𝒱₀ (c : Thread nD τ) none Set.univ (m := ownM) (Finset.subset_univ _)) $$ Hown; iintro Hown
  iapply (wp_store 𝒱₀ (c : Thread nD τ) none Set.univ (m := ownM) (r := ro0) (Mk := Finset.univ) (Finset.subset_univ _)) $$ Hown; iintro Hown
  iapply (wp_load 𝒱₀ (c : Thread nD τ) none Set.univ (m := ownM) (Finset.subset_univ _)) $$ Hown; iintro Hown
  iapply (wp_store 𝒱₀ (c : Thread nD τ) none Set.univ (m := ownM) (r := ro1) (Mk := Finset.univ) (Finset.subset_univ _)) $$ Hown; iintro Hown
  ihave Hown := (Entails.of_eq (congrArg (fun g => (((c : Thread nD τ).loc cc0_scratch0) ↦{fullShare} g : sProp 𝕄)) (own_after m ρ c fo))) $$ Hown
  ihave Hsh := (own_shares c (ownC m ρ c)).1 $$ Hown
  icases Hsh with ⟨⟨SH0, SH1⟩, SH2, SHk⟩
  -- the barrier wait: the three peers' slots
  iapply (wait_own m ρ K .bar c (w := .semWait barS (3#32).toInt) 3 (by rfl) (fun _ => rfl) [((up 0 c, .rcv 0), N), ((up 1 c, .rcv 1), N), ((up 2 c, .rcv 2), N), ((up 0 c, .done), 1), ((up 1 c, .done), 1), ((up 2 c, .done), 1)] rfl _ rfl) $$ [CB HO PB]
  · isplitr; · iexact HR
    isplitr; · iexact Hlev
    isplitl [CB]; · iexact CB
    isplitl [HO]; · iexact HO
    iexact PB
  iintro ⟨HO, ZB, Hp⟩
  ihave Hp := (show bigSep (dutiesOf .bar) (payOf m ρ c .bar)
      ⊢ iprop((∃ f, slotPts (up 2 c) 2 f) ∗ (∃ f, slotPts (up 1 c) 1 f) ∗ ∃ f, slotPts (up 0 c) 0 f) from
    Entails.of_eq (bigSep_fin3 (payOf m ρ c .bar))) $$ Hp
  icases Hp with ⟨B0, B1, B2⟩
  -- the three copies
  iapply (copy_peer m ρ K 0 c _ (copy_dev0 c) _) $$ [SH0 B2 HO TS0 TV0]
  · isplitr; · iexact HR
    isplitl [SH0]; · iexact SH0
    isplitl [B2]; · iexact B2
    isplitl [HO]; · iexact HO
    isplitl [TS0]; · iexact TS0
    iexact TV0
  iintro ⟨CS0, HO⟩
  iapply (copy_peer m ρ K 1 c _ (copy_dev1 c) _) $$ [SH1 B1 HO TS1 TV1]
  · isplitr; · iexact HR
    isplitl [SH1]; · iexact SH1
    isplitl [B1]; · iexact B1
    isplitl [HO]; · iexact HO
    isplitl [TS1]; · iexact TS1
    iexact TV1
  iintro ⟨CS1, HO⟩
  iapply (copy_peer m ρ K 2 c _ (copy_dev2 c) _) $$ [SH2 B0 HO TS2 TV2]
  · isplitr; · iexact HR
    isplitl [SH2]; · iexact SH2
    isplitl [B0]; · iexact B0
    isplitl [HO]; · iexact HO
    isplitl [TS2]; · iexact TS2
    iexact TV2
  iintro ⟨CS2, HO⟩
  -- the three landings
  iapply (wait_own m ρ K (.rcv 0) c (w := .waitDma2 (recvS 0) ownM (slotM 0) _ _) N (by rfl) (fun _ => rfl) [((up 0 c, .done), 1), ((up 1 c, .done), 1), ((up 2 c, .done), 1)] rfl _ rfl) $$ [CV0 HO PV0]
  · isplitr; · iexact HR
    isplitr; · iexact Hlev
    isplitl [CV0]; · iexact CV0
    isplitl [HO]; · iexact HO
    iexact PV0
  iintro ⟨HO, ZV0, Hp⟩
  ihave SL0 := (show bigSep (dutiesOf (.rcv 0)) (payOf m ρ c (.rcv 0)) ⊢ slotPts c 0 (comC m ρ c) from
    Entails.of_eq bigSep_singleton) $$ Hp
  iapply (wait_own m ρ K (.rcv 1) c (w := .waitDma2 (recvS 1) ownM (slotM 1) _ _) N (by rfl) (fun _ => rfl) [((up 0 c, .done), 1), ((up 1 c, .done), 1), ((up 2 c, .done), 1)] rfl _ rfl) $$ [CV1 HO PV1]
  · isplitr; · iexact HR
    isplitr; · iexact Hlev
    isplitl [CV1]; · iexact CV1
    isplitl [HO]; · iexact HO
    iexact PV1
  iintro ⟨HO, ZV1, Hp⟩
  ihave SL1 := (show bigSep (dutiesOf (.rcv 1)) (payOf m ρ c (.rcv 1)) ⊢ slotPts c 1 (comC m ρ c) from
    Entails.of_eq bigSep_singleton) $$ Hp
  iapply (wait_own m ρ K (.rcv 2) c (w := .waitDma2 (recvS 2) ownM (slotM 2) _ _) N (by rfl) (fun _ => rfl) [((up 0 c, .done), 1), ((up 1 c, .done), 1), ((up 2 c, .done), 1)] rfl _ rfl) $$ [CV2 HO PV2]
  · isplitr; · iexact HR
    isplitr; · iexact Hlev
    isplitl [CV2]; · iexact CV2
    isplitl [HO]; · iexact HO
    iexact PV2
  iintro ⟨HO, ZV2, Hp⟩
  ihave SL2 := (show bigSep (dutiesOf (.rcv 2)) (payOf m ρ c (.rcv 2)) ⊢ slotPts c 2 (comC m ρ c) from
    Entails.of_eq bigSep_singleton) $$ Hp
  ihave Hcom := (Entails.of_eq ((com_slots c (comC m ρ c)).trans (bigSep_fin3 _)).symm) $$ [SL0 SL1 SL2]
  · isplitl [SL0]; · iexact SL0
    isplitl [SL1]; · iexact SL1
    iexact SL2
  ihave Hown := (Entails.of_eq (ownPts_eq c keptShare (ownC m ρ c))) $$ SHk
  -- the rows, and the result
  iapply (wp_load 𝒱₀ (c : Thread nD τ) none Set.univ (m := ownM) (Finset.subset_univ _)) $$ Hown; iintro Hown
  rw [read_own0 m ρ c]
  iapply (wp_load 𝒱₀ (c : Thread nD τ) none Set.univ (m := comM) (Finset.subset_univ _)) $$ Hcom; iintro Hcom
  rw [read_com00 m ρ c]
  iapply (wp_load 𝒱₀ (c : Thread nD τ) none Set.univ (m := comM) (Finset.subset_univ _)) $$ Hcom; iintro Hcom
  rw [read_com10 m ρ c]
  iapply (wp_load 𝒱₀ (c : Thread nD τ) none Set.univ (m := comM) (Finset.subset_univ _)) $$ Hcom; iintro Hcom
  rw [read_com20 m ρ c]
  iapply (wp_load 𝒱₀ (c : Thread nD τ) none Set.univ (m := ownM) (Finset.subset_univ _)) $$ Hown; iintro Hown
  rw [read_own1 m ρ c]
  iapply (wp_load 𝒱₀ (c : Thread nD τ) none Set.univ (m := comM) (Finset.subset_univ _)) $$ Hcom; iintro Hcom
  rw [read_com01 m ρ c]
  iapply (wp_load 𝒱₀ (c : Thread nD τ) none Set.univ (m := comM) (Finset.subset_univ _)) $$ Hcom; iintro Hcom
  rw [read_com11 m ρ c]
  iapply (wp_load 𝒱₀ (c : Thread nD τ) none Set.univ (m := comM) (Finset.subset_univ _)) $$ Hcom; iintro Hcom
  rw [read_com21 m ρ c]
  iapply (wp_load 𝒱₀ (c : Thread nD τ) none Set.univ (m := outM) (Finset.subset_univ _)) $$ Hout; iintro Hout
  iapply (wp_store 𝒱₀ (c : Thread nD τ) none Set.univ (m := outM) (r := vR) (Mk := Finset.univ) (Finset.subset_univ _)) $$ Hout; iintro Hout
  rw [write_out]
  -- the three copies have read `own`
  iapply (wait_own m ρ K (.snd 0) c (w := .waitDma2 (sendS 0) (slotM 0) ownM _ _) N (by rfl) (fun _ => rfl) [((up 0 c, .done), 1), ((up 1 c, .done), 1), ((up 2 c, .done), 1)] rfl _ rfl) $$ [CS0 HO PS0]
  · isplitr; · iexact HR
    isplitr; · iexact Hlev
    isplitl [CS0]; · iexact CS0
    isplitl [HO]; · iexact HO
    iexact PS0
  iintro ⟨HO, ZS0, Hp⟩
  ihave SH0 := (show bigSep (dutiesOf (.snd 0)) (payOf m ρ c (.snd 0)) ⊢ ownPts c (copyShare 0) (ownC m ρ c) from
    Entails.of_eq bigSep_singleton) $$ Hp
  iapply (wait_own m ρ K (.snd 1) c (w := .waitDma2 (sendS 1) (slotM 1) ownM _ _) N (by rfl) (fun _ => rfl) [((up 0 c, .done), 1), ((up 1 c, .done), 1), ((up 2 c, .done), 1)] rfl _ rfl) $$ [CS1 HO PS1]
  · isplitr; · iexact HR
    isplitr; · iexact Hlev
    isplitl [CS1]; · iexact CS1
    isplitl [HO]; · iexact HO
    iexact PS1
  iintro ⟨HO, ZS1, Hp⟩
  ihave SH1 := (show bigSep (dutiesOf (.snd 1)) (payOf m ρ c (.snd 1)) ⊢ ownPts c (copyShare 1) (ownC m ρ c) from
    Entails.of_eq bigSep_singleton) $$ Hp
  iapply (wait_own m ρ K (.snd 2) c (w := .waitDma2 (sendS 2) (slotM 2) ownM _ _) N (by rfl) (fun _ => rfl) [((up 0 c, .done), 1), ((up 1 c, .done), 1), ((up 2 c, .done), 1)] rfl _ rfl) $$ [CS2 HO PS2]
  · isplitr; · iexact HR
    isplitr; · iexact Hlev
    isplitl [CS2]; · iexact CS2
    isplitl [HO]; · iexact HO
    iexact PS2
  iintro ⟨HO, ZS2, Hp⟩
  ihave SH2 := (show bigSep (dutiesOf (.snd 2)) (payOf m ρ c (.snd 2)) ⊢ ownPts c (copyShare 2) (ownC m ρ c) from
    Entails.of_eq bigSep_singleton) $$ Hp
  ihave SHk := (Entails.of_eq (ownPts_eq c keptShare (ownC m ρ c)).symm) $$ Hown
  ihave Hown := (own_shares c (ownC m ρ c)).2 $$ [SH0 SH1 SH2 SHk]
  · isplitl [SH0 SH1]
    · isplitl [SH0]; · iexact SH0
      iexact SH1
    · isplitl [SH2]; · iexact SH2
      iexact SHk
  -- the closing handshake
  iapply (signal_peer m ρ K .done (.inr rfl) doneS rfl 0 c _ (done_dev0 c) _ rfl _) $$ [HO TD0]
  · isplitr; · iexact HR
    isplitl [HO]; · iexact HO
    isplitl [TD0]; · iexact TD0
    rw [show payOf m ρ (up 0 c) .done 0 = iprop(emp) from rfl]
    iempintro
  iintro HO
  iapply (signal_peer m ρ K .done (.inr rfl) doneS rfl 1 c _ (done_dev1 c) _ rfl _) $$ [HO TD1]
  · isplitr; · iexact HR
    isplitl [HO]; · iexact HO
    isplitl [TD1]; · iexact TD1
    rw [show payOf m ρ (up 1 c) .done 1 = iprop(emp) from rfl]
    iempintro
  iintro HO
  iapply (signal_peer m ρ K .done (.inr rfl) doneS rfl 2 c _ (done_dev2 c) _ rfl _) $$ [HO TD2]
  · isplitr; · iexact HR
    isplitl [HO]; · iexact HO
    isplitl [TD2]; · iexact TD2
    rw [show payOf m ρ (up 2 c) .done 2 = iprop(emp) from rfl]
    iempintro
  iintro HO
  iapply (wait_own m ρ K .done c (w := .semWait doneS (3#32).toInt) 3 (by rfl) (fun _ => rfl) [] rfl _ rfl) $$ [CD HO PD]
  · isplitr; · iexact HR
    isplitr; · iexact Hlev
    isplitl [CD]; · iexact CD
    isplitl [HO]; · iexact HO
    iexact PD
  iintro ⟨HO, ZD, -⟩
  rw [wp_ret]; imodintro
  iapply Hk
  unfold bodyPost Φ₁ scratch Dat.owesAt Pipeline.owesWithin owing
  rw [bigSep_roles, show (dats m ρ 0 c).owed t0_0.succ = 0 from rfl]
  icases HO with ⟨%W', HO⟩
  isplitl [Hown Hcom ZB ZD ZS0 ZS1 ZS2 ZV0 ZV1 ZV2]
  · isplitl [Hown Hcom]
    · isplitl [Hown]; · iexists _; iexact Hown
      iexists _; iexact Hcom
    isplitl [ZB]; · iexact ZB
    isplitl [ZD]; · iexact ZD
    isplitl [ZS0]; · iexact ZS0
    isplitl [ZS1]; · iexact ZS1
    isplitl [ZS2]; · iexact ZS2
    isplitl [ZV0]; · iexact ZV0
    isplitl [ZV1]; · iexact ZV1
    iexact ZV2
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  isplitl [Hlab]
  · iexists _; isplitr; · (ipureintro; rfl)
    iexact Hlab
  iexists _; isplitr; · (ipureintro; rfl)
  iexact Hout

omit [FloatOps F] in
theorem owns_staged (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-- What the launch asks of the body on device `c`. -/
theorem body_obligation (c : Dev nD) : BodyObligation (dats (F := F) m ρ 0 c) (defs₀ (F := F)) 𝒱₀ () Set.univ := fun t => by
  rw [fin_N0 t, bigSep_W0, bigSep_W0]
  simp only [owns_staged]
  show iprop(Φ₀ m ρ c ∗ (dats m ρ 0 c).owesAt () t0_0.castSucc
      ∗ (∃ d, stg c cc0_stg0_0 ((dats m ρ 0 c).before (0 : Fin 4) t0_0 d))
      ∗ (∃ d, stg c cc0_stg1_0 ((dats m ρ 0 c).before (1 : Fin 4) t0_0 d))
      ∗ (∃ d, stg c cc0_stg2_0 ((dats m ρ 0 c).before (2 : Fin 4) t0_0 d))
      ∗ (∃ d, stg c cc0_stg3_0 ((dats m ρ 0 c).before (3 : Fin 4) t0_0 d)))
    ⊢ wp frame (wpE (defs₀ (F := F)) 𝒱₀ c none) Set.univ bodyProg (fun _ => bodyPost m ρ c)
  unfold Φ₀ start
  iintro ⟨⟨⟨⟨%K, Hg⟩, Hcr, Hlev⟩, Hscr⟩, Hrest⟩
  iapply (sound_body m ρ K c fun _ => bodyPost m ρ c)
  unfold bodyPre
  isplitr []
  · isplitl [Hg Hcr Hlev Hscr]
    · isplitl [Hg]; · iexact Hg
      isplitl [Hcr]; · iexact Hcr
      isplitl [Hlev] <;> iassumption
    iexact Hrest
  · iintro H; iexact H

end Body

end Cert.CrossEntropy

end
-- ==== Proof.Run.lean ====
/-
# The launch and the whole run

From any memory with every semaphore at zero, the thirty-two programs terminate under every fair schedule; in every final state
the arguments are as they were, the result array of each device is what `outAt` says, and every semaphore is at zero.

The launch mints three tokens for every cell, and deals each to the device that pays it: those of a `bar`, `rcv` or `done` cell
go one, two and three steps round the line along `z`. It also gives each device the credits that match what the others owe to
its cells: three units each on `bar` and `done`, a block's bytes on each `rcv`.
-/
module

public import proofs.«01_k».proof.Proof.Body
public import Idealize.ShloMosaic.Lib.Pipeline.CollectiveSegs

@[expose] public section

noncomputable section

namespace Cert.CrossEntropy

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat)
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The semaphores -/

/-- The seven semaphores the kernel itself asks for; the eighth, the barrier's, is given. -/
abbrev osem : Fin 7 → SemLoc sig := fun
  | 0 => semOf .done | 1 => semOf (.snd 0) | 2 => semOf (.snd 1) | 3 => semOf (.snd 2)
  | 4 => semOf (.rcv 0) | 5 => semOf (.rcv 1) | 6 => semOf (.rcv 2)

theorem ownSemFacts : Pipeline.OwnSemFacts cfg0.spec osem := by decide

omit [FloatOps F] in
theorem ownSems0_eq (c : Dev nD) : (Pipeline.ownSems0 (Ix := Unit) (Name := ℕ) (U := UU) (Lvl := ℕ) (Val := Elt F) (τ := τ) osem c : sProp 𝕄)
    = iprop(semVal (cell c .done) 0 ∗ semVal (cell c (.snd 0)) 0 ∗ semVal (cell c (.snd 1)) 0 ∗ semVal (cell c (.snd 2)) 0
        ∗ semVal (cell c (.rcv 0)) 0 ∗ semVal (cell c (.rcv 1)) 0 ∗ semVal (cell c (.rcv 2)) 0) := by
  rw [Pipeline.ownSems0_eq_of_list c osem [0, 1, 2, 3, 4, 5, 6] (by decide) (by decide)]; rfl
omit [FloatOps F] in
theorem unscopedSems0_eq (c : Dev nD) : (unscopedSems0 c : sProp 𝕄) = semVal (cell c .bar) 0 := by
  unfold unscopedSems0; rw [bigSep_eq_bigSepL_of_eq [SemLoc.reg barS] (by decide) (by decide)]; rfl

omit [FloatOps F] in
/-- A device's eight cells' counters at zero are the launch's semaphores at zero. -/
theorem sems0_eq (c : Dev nD) :
    (iprop(unscopedSems0 c ∗ Pipeline.ownSems0 (Ix := Unit) (Name := ℕ) (U := UU) (Lvl := ℕ) (Val := Elt F) (τ := τ) osem c) : sProp 𝕄)
      = bigSep Finset.univ fun k : Role => semVal (cell c k) 0 := by
  rw [ownSems0_eq, unscopedSems0_eq, bigSep_roles]

/-! ## Cells and tokens -/

def allCells : Finset (GSem nD τ sig) := Finset.univ.map ⟨fun ck : Dev nD × Role => cell ck.1 ck.2, cell_injective⟩

theorem tok_injective : Function.Injective fun x : Dev nD × (Role × Fin 3) => ((cell x.1 x.2.1, 0, x.2.2) : GSem nD τ sig × ℕ × Fin 3) := by
  rintro ⟨c, k, d⟩ ⟨c', k', d'⟩ h
  have h1 := (cell_eq_iff c c' k k').mp (congrArg Prod.fst h)
  have h2 : d = d' := congrArg (fun x : GSem nD τ sig × ℕ × Fin 3 => x.2.2) h
  rw [h1.1, h1.2, h2]

def allToks : Finset (GSem nD τ sig × ℕ × Fin 3) := Finset.univ.map ⟨_, tok_injective⟩

def u₀ : UU := (initOf (Pipeline.cells cfgs cellOf_inj) (Pipeline.launchToks cfgs cellOf_inj), initOf allCells allToks)

/-- The tokens of device `c`'s own cells. -/
def toks (c : Dev nD) : sProp 𝕄 := bigSep Finset.univ fun kd : Role × Fin 3 => dutyTok ER (cell c kd.1) 0 kd.2

/-- What the launch makes for device `c`'s cells; -/
def G (c : Dev nD) : sProp 𝕄 :=
  iprop((bigSep Finset.univ fun k : Role => roundState ER (Rd m ρ) (cell c k) 0)
    ∗ (bigSep Finset.univ fun k : Role => iprop(atPos ER (cell c k) 0 ∅ 0 ∗ reached ER (cell c k) 0)) ∗ toks c)
/-- and what device `c` is dealt. -/
def G' (c : Dev nD) : sProp 𝕄 := iprop(∃ K, ghost m ρ K c)

theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Role => Φ (cell c k) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro HX
  imod (Rounds.fund ER (Rd m ρ) allCells allToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- What is held for every device `c` and every step `j` is held for every `up j c`. -/
theorem round_the_line (Ψ : Fin 3 → Dev nD → sProp 𝕄) :
    (bigSep Finset.univ fun c : Dev nD => bigSep Finset.univ fun j : Fin 3 => Ψ j c)
      = bigSep Finset.univ fun c : Dev nD => bigSep Finset.univ fun j : Fin 3 => Ψ j (up j c) := by
  simp only [bigSep_fin3, bigSep_sep']
  rw [bigSep_univ_equiv (turn 0) (Ψ 0), bigSep_univ_equiv (turn 1) (Ψ 1), bigSep_univ_equiv (turn 2) (Ψ 2)]
  rfl

omit [FloatOps F] in
/-- The tokens of a device's own cells that are ever paid with, part by part. -/
theorem toks_parts (c : Dev nD) :
    (toks c : sProp 𝕄) ⊢ iprop((bigSep Finset.univ fun j : Fin 3 => dutyTok ER (cell c .bar) 0 j)
      ∗ (bigSep Finset.univ fun j : Fin 3 => dutyTok ER (cell c (.snd j)) 0 0)
      ∗ (bigSep Finset.univ fun j : Fin 3 => dutyTok ER (cell c (.rcv j)) 0 0)
      ∗ (bigSep Finset.univ fun j : Fin 3 => dutyTok ER (cell c .done) 0 j)) := by
  unfold toks
  rw [bigSep_univ_prod]
  simp only [bigSep_roles, bigSep_fin3]
  iintro ⟨HB, HD, ⟨S0, -⟩, ⟨S1, -⟩, ⟨S2, -⟩, ⟨V0, -⟩, ⟨V1, -⟩, ⟨V2, -⟩⟩
  isplitl [HB]; · iexact HB
  isplitl [S0 S1 S2]
  · isplitl [S0]; · iexact S0
    isplitl [S1] <;> iassumption
  isplitl [V0 V1 V2]
  · isplitl [V0]; · iexact V0
    isplitl [V1] <;> iassumption
  iexact HD

omit [FloatOps F] in
/-- Every token dealt to the device that pays it. -/
theorem toks_dealt : (bigSep Finset.univ fun c : Dev nD => (toks c : sProp 𝕄)) ⊢ bigSep Finset.univ fun c : Dev nD => payToks c := by
  refine (bigSep_mono fun c _ => toks_parts c).trans ?_
  unfold payToks
  simp only [bigSep_sep']
  rw [round_the_line fun j c => dutyTok ER (cell c .bar) 0 j, round_the_line fun j c => dutyTok ER (cell c (.rcv j)) 0 0,
    round_the_line fun j c => dutyTok ER (cell c .done) 0 j]
  exact BI.Entails.refl _

/-! ## The invariants -/

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Role => iprop(∃ κ : ℕ, cellInv ER (Rd m ρ) κ (cell c k)))
          ∗ (bigSep Finset.univ fun k : Role => iprop(atPos ER (cell c k) 0 ∅ 0 ∗ reached ER (cell c k) 0)) ∗ toks c) := by
  unfold G
  iintro ⟨Hos, Hus, Hst, Hat, Htok⟩
  ihave Hv := (Entails.of_eq (sems0_eq (F := F) c)) $$ [Hos Hus]
  · isplitl [Hus] <;> iassumption
  imod (show iprop((bigSep Finset.univ fun k : Role => semVal (cell c k) 0) ∗ bigSep Finset.univ fun k : Role => roundState ER (Rd m ρ) (cell c k) 0)
      ⊢ (|={Set.univ}=> bigSep Finset.univ fun k : Role => iprop(∃ κ : ℕ, cellInv ER (Rd m ρ) κ (cell c k)) : sProp 𝕄) from by
        rw [← bigSep_sep']
        exact (bigSep_mono fun k _ => (Rounds.body_intro ER (Rd m ρ) (cell c k)).trans inv_alloc).trans (bigSep_fupd _ _)) $$ [Hv Hst] with Hinv
  · isplitl [Hv] <;> iassumption
  imodintro
  isplitl [Hinv]; · iexact Hinv
  isplitl [Hat] <;> iassumption

omit [FloatOps F] in
/-- A persistent assertion goes to every member. -/
theorem bigSep_share {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Role => iprop(∃ κ : ℕ, cellInv ER (Rd m ρ) κ (cell c k)))
          ∗ (bigSep Finset.univ fun k : Role => iprop(atPos ER (cell c k) 0 ∅ 0 ∗ reached ER (cell c k) 0)) ∗ toks c) : sProp 𝕄)
      ⊢ bigSep Finset.univ (G' m ρ) := by
  rw [bigSep_sep', bigSep_sep', ← bigSep_univ_prod (fun ck : Dev nD × Role => iprop(∃ κ : ℕ, cellInv ER (Rd m ρ) κ (cell ck.1 ck.2))),
    bigSep_congr (s := Finset.univ) (fun (c : Dev nD) _ => bigSep_sep' Finset.univ (fun k : Role => (atPos ER (cell c k) 0 ∅ 0 : sProp 𝕄)) (fun k => reached ER (cell c k) 0)),
    bigSep_sep', ← bigSep_univ_prod (fun ck : Dev nD × Role => (reached ER (cell ck.1 ck.2) 0 : sProp 𝕄))]
  iintro ⟨HI, ⟨Hat, #HR⟩, Htok⟩
  ihave HK := (BI.bigSep_exists_pi Finset.univ (fun (ck : Dev nD × Role) (κ : ℕ) => (cellInv ER (Rd m ρ) κ (cell ck.1 ck.2) : sProp 𝕄))) $$ HI
  icases HK with ⟨%K, #HI⟩
  ihave Htk := (toks_dealt (F := F)) $$ Htok
  iapply (bigSep_share (R := records m ρ K) (Φ := fun c => iprop(poss c ∗ payToks c)) fun c _ => show _ ⊢ G' m ρ c from by
    unfold G' ghost; iintro ⟨H, Hrest⟩; iexists K
    isplitl [H] <;> iassumption)
  isplitr
  · unfold records; isplitl; · iexact HI
    iexact HR
  · rw [bigSep_sep']
    unfold poss
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits -/

/-- One device owes a given cell by its `up j`: so many units in all. -/
theorem sum_up (c : Dev nD) (j : Fin 3) (n : ℕ) : (∑ d : Dev nD, if c = up j d then n else 0) = n := by
  rw [Finset.sum_congr rfl fun d _ => if_congr (eq_comm.trans (up_eq_iff j c d)) rfl rfl, Finset.sum_ite_eq' Finset.univ (up (Fin.rev j) c) fun _ => n,
    if_pos (Finset.mem_univ _)]

theorem owed_bar (d c : Dev nD) : owed (debts d) (cell c .bar) ()
    = (if c = up 0 d then 1 else 0) + ((if c = up 1 d then 1 else 0) + if c = up 2 d then 1 else 0) := by
  rw [owed_apply]; unfold debts; simp [cell_eq_iff]
theorem owed_done (d c : Dev nD) : owed (debts d) (cell c .done) ()
    = (if c = up 0 d then 1 else 0) + ((if c = up 1 d then 1 else 0) + if c = up 2 d then 1 else 0) := by
  rw [owed_apply]; unfold debts; simp [cell_eq_iff]
theorem owed_rcv (j : Fin 3) (d c : Dev nD) : owed (debts d) (cell c (.rcv j)) () = if c = up j d then N else 0 := by
  rw [owed_apply]; unfold debts; fin_cases j <;> simp [cell_eq_iff]

omit [FloatOps F] in
theorem launch_cell (c : Dev nD) (k : Role) (n : ℕ) (h : ∑ d : Dev nD, owed (debts d) (cell c k) () = n) :
    tallyOn (cell c k) (launchCredit (Pipeline.owing fun c => owed (debts c)) 0 (cell c k)) = (tallyAt (cell c k) () n : CellTallies nD τ sig Unit) := by
  unfold tallyAt; refine congrArg _ (Finsupp.ext fun u => ?_); cases u
  rw [Pipeline.launchCredit_owing, Finsupp.single_eq_same, h]

omit [FloatOps F] in
theorem creds (c : Dev nD) : (Pipeline.launchCred (fun c => owed (debts c)) c : sProp 𝕄) ⊢ credits c := by
  have h3 : ∀ k, k = .bar ∨ k = .done → ∑ d : Dev nD, owed (debts d) (cell c k) () = 3 := by
    rintro k (rfl | rfl)
    · rw [Finset.sum_congr rfl fun d _ => owed_bar d c, Finset.sum_add_distrib, Finset.sum_add_distrib, sum_up, sum_up, sum_up]; rfl
    · rw [Finset.sum_congr rfl fun d _ => owed_done d c, Finset.sum_add_distrib, Finset.sum_add_distrib, sum_up, sum_up, sum_up]; rfl
  have hN : ∀ j, ∑ d : Dev nD, owed (debts d) (cell c (.rcv j)) () = N := fun j => by
    rw [Finset.sum_congr rfl fun d _ => owed_rcv j d c, sum_up]
  unfold Pipeline.launchCred
  refine (BI.bigSep_subset (Finset.subset_univ (Finset.univ.map ⟨semOf, semOf_injective⟩))).trans ?_
  rw [bigSep_map, bigSep_roles]
  show iprop(cred (tallyOn (cell c .bar) (launchCredit (Pipeline.owing fun c => owed (debts c)) 0 (cell c .bar)))
    ∗ cred (tallyOn (cell c .done) (launchCredit (Pipeline.owing fun c => owed (debts c)) 0 (cell c .done)))
    ∗ _ ∗ _ ∗ _
    ∗ cred (tallyOn (cell c (.rcv 0)) (launchCredit (Pipeline.owing fun c => owed (debts c)) 0 (cell c (.rcv 0))))
    ∗ cred (tallyOn (cell c (.rcv 1)) (launchCredit (Pipeline.owing fun c => owed (debts c)) 0 (cell c (.rcv 1))))
    ∗ cred (tallyOn (cell c (.rcv 2)) (launchCredit (Pipeline.owing fun c => owed (debts c)) 0 (cell c (.rcv 2))))) ⊢ credits c
  rw [launch_cell c .bar 3 (h3 _ (.inl rfl)), launch_cell c .done 3 (h3 _ (.inr rfl)), launch_cell c (.rcv 0) N (hN 0),
    launch_cell c (.rcv 1) N (hN 1), launch_cell c (.rcv 2) N (hN 2)]
  unfold credits
  rw [bigSep_fin3]
  iintro ⟨HB, HD, -, -, -, H0, H1, H2⟩
  isplitl [HB]; · iexact HB
  isplitl [HD]; · iexact HD
  isplitl [H0]; · iexact H0
  isplitl [H1] <;> iassumption

/-! ## The run -/

theorem start_intro (c : Dev nD) :
    iprop(Pipeline.unscopedRestP Pipeline.Prefetch.none cfg0.spec c (fun b => m ((c : Thread nD τ).loc b)) ∗ levAts L lv
        ∗ Pipeline.launchCred (fun c => owed (debts c)) c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scratch
  rw [← sems0_eq]
  iintro ⟨Hr, HB, HO⟩
  isplitl [HB]; · iexact HB
  isplitl [HO] <;> iassumption

theorem debts_rank (c : Dev nD) : ∀ d ∈ debts c, d.1.1.2 = .tc ∧ 0 < lv d.1 () := by
  intro d hd
  unfold debts at hd
  simp only [List.mem_cons, List.not_mem_nil, or_false] at hd
  rcases hd with rfl | rfl | rfl | rfl | rfl | rfl | rfl | rfl | rfl <;> exact ⟨rfl, by rw [lv_cell]; decide⟩

/-- The staging semaphores are none of the eight: a device may wait on them whatever it owes. -/
theorem waits (c : Dev nD) : (levAts L lv : sProp 𝕄) ⊢ Pipeline.cellsWaits cfgs (dats m ρ) () 0 c :=
  Pipeline.cellsWaits_intro cfgs (dats m ρ) () 0 c fun w s t => by
    have hr : ∀ (w : Fin 4) (s), roleOf (.dma (((cfgs 0).win w).sem s)) = none := by decide
    rcases t with ⟨_ | _, ht⟩
    · refine may_wait c _ (debts c) fun d hd => ⟨(debts_rank c d hd).1, ?_⟩
      rw [show roleOf _ = none from hr w s]
      exact (debts_rank c d hd).2
    · show _ ⊢ MayWait _ _ _ 0
      rw [MayWait_zero]; iintro -; iempintro

def finalA (c : Dev nD) (w : Fin cfg0.W) : Buf (Elt F) ((cfg0.win w).arr.view.loc (c : Thread nD τ)) := (dats m ρ 0 c).arrAt w cfg0.N

/-- Every array of every device is as the staging leaves it. -/
def Final : PUnit × MemSt nD τ sig (Elt F) → Prop := fun r =>
  ∀ c : Dev nD, ∀ w : Fin cfg0.W, r.2.mem ((cfg0.win w).arr.view.loc (c : Thread nD τ)) = finalA m ρ c w

theorem share_full (c : Dev nD) (w : Fin cfg0.W) : (dats m ρ 0 c).share w = fullShare := by unfold Dat.share; split <;> rfl

set_option maxRecDepth 8000 in
/-- Under every fair schedule the run ends, with every array as `Final` says and every semaphore at zero. -/
theorem run_main : θ_run defs (onTc (τ := τ) (main (F := F))) (s₀ m ρ) (fun r => Final m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_full m ρ)
    (hdistinct := winFacts0.arr_inj)
    (O₀ := fun c => owed (debts c)) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments' arrays are as they were. -/
theorem final_in (c : Dev nD) (w : Fin cfg0.W) (hw : w.val < 3) :
    finalA m ρ c w = (s₀ m ρ).mem ((cfg0.win w).arr.view.loc (c : Thread nD τ)) :=
  (dats (F := F) m ρ 0 c).arrAt_in w (by revert w; decide) _

/-- The run, with what becomes of the result let go: the arguments are as they were and every semaphore is at zero. -/
theorem run_kept : θ_run defs (onTc (τ := τ) (main (F := F))) (s₀ m ρ) (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0) :=
  (θ_run defs _ _).mono (fun _ h => ⟨fun c => ⟨(h.1 c (0 : Fin 4)).trans (final_in m ρ c 0 (by decide)),
      (h.1 c (1 : Fin 4)).trans (final_in m ρ c 1 (by decide)), (h.1 c (2 : Fin 4)).trans (final_in m ρ c 2 (by decide))⟩, h.2⟩)
    (run_main m ρ)

/-- The result's one block, the whole array, holds what the body left in its staging buffer. -/
theorem final_out (c : Dev nD) : (win0_3.blk (0 : Fin 1)).view.read (Elt F) (finalA m ρ c (3 : Fin 4)) = outAt m ρ c := by
  unfold finalA
  rw [show cfg0.N = ((0 : Fin 1) : Fin cfg0.N).val + 1 from rfl, (dats m ρ 0 c).arrAt_succ (3 : Fin 4) (0 : Fin 1)]
  rw [show (cfg0.win (3 : Fin 4)).flush (0 : Fin 1) = true from by decide, if_pos rfl]
  exact View.read_write_univ _ _

end Cert.CrossEntropy

end
-- ==== Proof.Frames.lean ====
/-
# The frames

The kernel and the reference end under every fair schedule with their arguments unchanged and every semaphore at zero. The
kernel's frame over machine words is the run over any float values, at the words.
-/
module

public import proofs.«01_k».proof.Defs
public import proofs.«01_k».proof.Proof.Run
public import proofs.«01_k».proof.Proof.Gen.Kernel
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.CrossEntropy

open Idealize.ShloMosaic Idealize.ShloMosaic.TcCoe Idealize.SL.Sem

/-- The shapes of the precondition's operations fit, on one device's blocks; -/
instance preFacts : Cert.Pre_finite_in_vocabulary_KernelIdeal.Facts :=
  ⟨by decide, by decide, by decide⟩
/-- and on the whole arrays. -/
instance preFactsRef : Cert.Pre_finite_in_vocabulary_ReferenceIdeal.Facts :=
  ⟨by decide, by decide, by decide⟩

theorem frame_kernelIdeal : Cert.quiescent_KernelIdeal := fun m ρ _ => run_kept (F := Ideal) m ρ

/-- The two programs' bodies are one text; so are their tables of bodies, -/
theorem defs₀_eq : Cert.Kernel.defs₀ (F := Bits) = Cert.KernelIdeal.defs₀ (F := Bits) :=
  congrArg Defs.onTc (funext fun l => funext fun a => by
    match l, a with
    | ⟨0, _⟩, (_, _) => rfl)
/-- with the staging round them too. -/
theorem defs_eq : Cert.Kernel.defs (F := Bits) = Cert.KernelIdeal.defs (F := Bits) :=
  congrArg (Pipeline.defs (Cert.KernelIdeal.pcfgs (F := Bits))) defs₀_eq

theorem frame_kernel : Cert.quiescent_Kernel := fun m ρ _ => by
  rw [defs_eq]; exact run_kept (F := Bits) m ρ

theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The frames under the precondition: it is not used. -/
theorem frame_kernelIdeal_pre : Cert.quiescent_KernelIdeal_pre_finite_in_vocabulary_KernelIdeal := fun m ρ _ => frame_kernelIdeal m ρ trivial
theorem frame_referenceIdeal_pre : Cert.quiescent_ReferenceIdeal_pre_finite_in_vocabulary_ReferenceIdeal := fun m ρ _ =>
  frame_referenceIdeal m ρ trivial

end Cert.CrossEntropy

end
-- ==== Proof.KernelValue.lean ====
/-
# What the kernel computes, entry by entry

Over the extended reals: a device's logits are the products of its activations with its block of the weight's columns; its row of
sums is the sums of their exponentials along the block; its row of labels is the sums of the logits whose column, counted from
the block's first, is the label. The stored result is the logarithm of four rows of sums added, less four rows of labels added.
-/
module

public import proofs.«01_k».proof.Proof.Protocol
public import Idealize.ShloMosaic.Lib.Pointwise

@[expose] public section

noncomputable section

namespace Cert.CrossEntropy

open Cert.KernelIdeal Cert.KernelIdeal.Gen
open Idealize.ShloMosaic

/-- The logit of row `r` at column `l` of a block. -/
theorem logits_apply (x : Vec Ideal S512x1024 .f32) (w : Vec Ideal S1024x8192 .f32) (r : Fin 512) (l : Fin 8192) :
    k0_pay1 x w (ix2 r l) = ∑ k : Fin 1024, x (ix2 r k) * w (ix2 k l) := by
  pointwise [k0_pay1]

/-- A row of sums: the exponentials of the logits along the block, added. -/
theorem sums_apply (x : Vec Ideal S512x1024 .f32) (w : Vec Ideal S1024x8192 .f32) (r : Fin 512) :
    k0_pay3 (k0_pay2 x w) (ix2 0 r) = ∑ l : Fin 8192, Ideal.exp (k0_pay1 x w (ix2 r l)) := by
  pointwise [k0_pay3, k0_pay2]

/-- A row of labels: the logits whose column is the label less the block's first column, added. -/
theorem labels_apply (z : BitVec 32) (g : FVec Ideal S512x8192 .f32) (lab : Vec Ideal S512 .i32) (r : Fin 512) :
    k0_pay4 z g lab (ix2 0 r) = ∑ l : Fin 8192, if BitVec.ofNat 32 l.val = lab (ix1 r) - z * 8192#32 then g (ix2 r l) else 0 := by
  pointwise [k0_pay4]
  refine Finset.sum_congr rfl fun l _ => ?_
  show Scalar.select (BitVec.ofBool (BitVec.ofNat 32 l.val == lab (ix1 r) - z * 8192#32)) _ _ = _
  by_cases h : BitVec.ofNat 32 l.val = lab (ix1 r) - z * 8192#32
  · rw [if_pos h, beq_iff_eq.mpr h]; rfl
  · rw [if_neg h, beq_eq_false_iff_ne.mpr h]; rfl

/-- The stored result. -/
theorem result_apply (s s0 s1 s2 l l0 l1 l2 : Vec Ideal S1x512 .f32) (r : Fin 512) :
    k0_pay7 (k0_pay5 s (deepen s0) (deepen s1) (deepen s2)) (k0_pay6 l) (deepen l0) (deepen l1) (deepen l2) (ix1 r)
      = Ideal.log (s (ix2 0 r) + s0 (ix2 0 r) + s1 (ix2 0 r) + s2 (ix2 0 r))
        - (l (ix2 0 r) + l0 (ix2 0 r) + l1 (ix2 0 r) + l2 (ix2 0 r)) := by
  pointwise [k0_pay7, k0_pay6, k0_pay5, deepen]

end Cert.CrossEntropy

end
-- ==== Proof.LogSumExp.lean ====
/-
# The logarithm of a sum of exponentials

The mathematics that joins the two programs, apart from either of them: the shift by the largest logit changes nothing when every
logit is a real number; a sum over 32768 columns is the four sums over its blocks of 8192, in any order round the line; and of
the columns exactly one is the label.
-/
module

public import Idealize.ShloMosaic.PureOps.Ideal
public import Mathlib.Analysis.SpecialFunctions.Log.Basic

@[expose] public section

noncomputable section

namespace Cert.CrossEntropy

open Idealize.ShloMosaic

/-- A finite sum of real numbers, taken among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The largest of one or more real numbers, starting from `-∞`, is a real number. -/
theorem fold_max_coe {ι : Type*} (s : Finset ι) (hs : s.Nonempty) (f : ι → ℝ) :
    ∃ M : ℝ, s.fold max (⊥ : EReal) (fun i => (f i : EReal)) = (M : EReal) := by
  classical
  induction hs using Finset.Nonempty.cons_induction with
  | singleton a => exact ⟨f a, by rw [Finset.fold_singleton]; exact max_eq_left bot_le⟩
  | cons a s ha hs ih =>
    obtain ⟨M, hM⟩ := ih
    refine ⟨max (f a) M, ?_⟩
    rw [Finset.fold_cons, hM]
    exact (EReal.coe_strictMono.monotone.map_max).symm

/-- The logarithm of a sum of exponentials of real numbers is a real number. -/
theorem log_sum_exp {ι : Type*} (s : Finset ι) (hs : s.Nonempty) (f : ι → ℝ) :
    Ideal.log (∑ i ∈ s, Ideal.exp (f i : EReal)) = ((Real.log (∑ i ∈ s, Real.exp (f i)) : ℝ) : EReal) := by
  simp only [Ideal.exp_coe]
  rw [← coe_sum, Ideal.log_coe, if_neg (not_le.mpr (Finset.sum_pos (fun i _ => Real.exp_pos _) hs))]

/-- Taking a real number out of every exponent and putting it back outside the logarithm changes nothing. -/
theorem log_sum_exp_shift {ι : Type*} (s : Finset ι) (hs : s.Nonempty) (f : ι → ℝ) (M : ℝ) :
    (M : EReal) + Ideal.log (∑ i ∈ s, Ideal.exp ((f i : EReal) - (M : EReal))) = Ideal.log (∑ i ∈ s, Ideal.exp (f i : EReal)) := by
  rw [log_sum_exp s hs]
  simp only [← EReal.coe_sub]
  rw [log_sum_exp s hs, ← EReal.coe_add]
  congr 1
  rw [Finset.sum_congr rfl fun i _ => Real.exp_sub (f i) M, ← Finset.sum_div,
    Real.log_div (Finset.sum_pos (fun i _ => Real.exp_pos _) hs).ne' (Real.exp_pos M).ne', Real.log_exp]
  ring

/-- A sum over 32768 columns is the sums over the four blocks of 8192, beginning at any block and going down the line. -/
theorem sum_blocks {A : Type*} [AddCommMonoid A] (g : ℕ → A) (z : ℕ) (hz : z < 4) :
    (∑ l : Fin 8192, g (z * 8192 + l.val)) + (∑ l : Fin 8192, g ((z + 3) % 4 * 8192 + l.val))
        + (∑ l : Fin 8192, g ((z + 2) % 4 * 8192 + l.val)) + (∑ l : Fin 8192, g ((z + 1) % 4 * 8192 + l.val))
      = ∑ v : Fin 32768, g v.val := by
  have hb : ∀ b : ℕ, (∑ l : Fin 8192, g (b * 8192 + l.val)) = ∑ l ∈ Finset.range 8192, g (b * 8192 + l) :=
    fun b => (Finset.sum_range fun l => g (b * 8192 + l)).symm
  rw [hb, hb, hb, hb, ← Finset.sum_range g, show 32768 = 0 * 8192 + 8192 + 8192 + 8192 + 8192 from rfl, Finset.sum_range_add, Finset.sum_range_add,
    Finset.sum_range_add, Nat.zero_mul, Nat.zero_add]
  have h0 : ∀ l, g (0 * 8192 + l) = g l := fun l => by rw [Nat.zero_mul, Nat.zero_add]
  interval_cases z <;> simp only [Nat.reduceAdd, Nat.reduceMod, Nat.reduceMul, Nat.zero_add, Nat.zero_mul] <;> abel

/-- Of the columns below 32768 one is the label. -/
theorem sum_label {A : Type*} [AddCommMonoid A] (g : ℕ → A) (k : ℕ) (hk : k < 32768) :
    (∑ v : Fin 32768, if v.val = k then g v.val else 0) = g k := by
  rw [← Finset.sum_range fun v => if v = k then g v else 0, Finset.sum_ite_eq' (Finset.range 32768) k g, if_pos (Finset.mem_range.mpr hk)]

end Cert.CrossEntropy

end
-- ==== Proof.RefValue.lean ====
/-
# What the reference computes, entry by entry

The reference in stages, each a function of the stages before it: the logits, the largest logit of every row, the logarithm of the
sum of exponentials, the table of pairs (row, label) the label's logit is gathered through, and the result. Every stage is then
read at an entry over the extended reals.
-/
module

public import proofs.«01_k».proof.Proof.Gen.ReferenceIdeal
public import Idealize.ShloMosaic.Lib.Pointwise
public import Idealize.ShloMosaic.Lib.Pipeline.Value
public import Idealize.ShloMosaic.Lib.WordCmp

@[expose] public section

noncomputable section

namespace Cert.CrossEntropy

open Cert.ReferenceIdeal Cert.ReferenceIdeal.Gen
open Idealize.ShloMosaic

variable {F : FTy → Type} [FloatOps F]

/-- The logits: the activations times the whole weight. -/
def refLogits (x : FVec F S512x1024 .f32) (W : FVec F S1024x32768 .f32) : FVec F S512x32768 .f32 :=
  Host.dotGeneral dot_S512x1024_S1024x32768_S512x32768_1_0_0_1_n_n none x W

/-- The largest logit of every row. -/
def refMax (L : FVec F S512x32768 .f32) : FVec F S512 .f32 :=
  Host.reduce FloatOps.maximumf L (constant S_ .f32 0xFF800000#32) reducesTo_S512x32768_S512_d1 h_S_

/-- A row's shift, standing in front of the logarithm of the sum of the exponentials of the logits less that shift. -/
def refLse (L : FVec F S512x32768 .f32) (M : FVec F S512 .f32) : FVec F S512 .f32 :=
  shapeCast _ (addf (broadcastInDim S512x1 ![0] bcast_S512_S512x1_0 M)
    (Host.log (broadcastInDim S512x1 ![0] bcast_S512_S512x1_0 (Host.reduceAdd
      (Host.exp (subf L (broadcastInDim S512x32768 ![0, 1] bcast_S512x1_S512x32768_0_1 (broadcastInDim S512x1 ![0] bcast_S512_S512x1_0 M))))
      (constant S_ .f32 0x00000000#32) reducesTo_S512x32768_S512_d1 h_S_)))) shapeCasts_S512x1_S512

/-- A vector of positions on an axis of extent `n`, the negative ones counted from the axis's end, as a column. -/
def refWrap (n : BitVec 32) (v : IVec S512 32) : IVec S512x1 32 :=
  broadcastInDim S512x1 ![0] bcast_S512_S512x1_0
    (select (cmpi .slt v (broadcastInDim S512 ![] bcast_S_S512 (constantI S_ 32 0#32)))
      (addi v (broadcastInDim S512 ![] bcast_S_S512 (constantI S_ 32 n))) v)

/-- Two columns side by side: the table of start indices. -/
def refTable (a b : IVec S512x1 32) : IVec S512x2 32 :=
  concatenate S512x2 1 [⟨S512x1, a⟩, ⟨S512x1, b⟩] concatenates_S512x1_S512x1_S512x2_d1

/-- The entries a table names. -/
def refPick (L : FVec F S512x32768 .f32) (t : IVec S512x2 32) : FVec F S512 .f32 :=
  Host.gather gather_S512x32768_S512x2_S512_n_01_n_n_01_1_11 L t

/-- The loss from the logits. -/
def refLoss (L : FVec F S512x32768 .f32) (lab : IVec S512 32) : FVec F S512 .f32 :=
  subf (refLse L (refMax L)) (refPick L (refTable (refWrap 512#32 (iotaInDim S512 32 0)) (refWrap 32768#32 lab)))

/-- The reference's result as a function of its arguments. -/
def refOut (x : FVec F S512x1024 .f32) (W : FVec F S1024x32768 .f32) (lab : IVec S512 32) : FVec F S512 .f32 :=
  refLoss (refLogits x W) lab

/-- The logit of row `r` at column `v`. -/
theorem refLogits_apply (x : FVec Ideal S512x1024 .f32) (W : FVec Ideal S1024x32768 .f32) (r : Fin 512) (v : Fin 32768) :
    refLogits x W (ix2 r v) = ∑ k : Fin 1024, x (ix2 r k) * W (ix2 k v) := by
  pointwise [refLogits]

/-- The word the largest logit is started from is negative infinity. -/
theorem negInf : Ideal.ofBits .f32 0xFF800000#32 = ⊥ := by
  simp [Ideal.ofBits, Ideal.ieee]

/-- The largest logit of row `r`. -/
theorem refMax_apply (L : FVec Ideal S512x32768 .f32) (r : Fin 512) :
    refMax L (ix1 r) = (Finset.univ : Finset (Fin 32768)).fold max ⊥ fun v => L (ix2 r v) := by
  pointwise [refMax]
  rw [negInf]

/-- The shifted logarithm of row `r`. -/
theorem refLse_apply (L : FVec Ideal S512x32768 .f32) (M : FVec Ideal S512 .f32) (r : Fin 512) :
    refLse L M (ix1 r) = M (ix1 r) + Ideal.log (∑ v : Fin 32768, Ideal.exp (L (ix2 r v) - M (ix1 r))) := by
  pointwise [refLse]

/-- A position that is not negative stays as it is. -/
theorem refWrap_apply (n : BitVec 32) (v : IVec S512 32) (r : Fin 512) (h : 0 ≤ (v (ix1 r)).toInt) :
    refWrap n v (ix2 r 0) = v (ix1 r) := by
  pointwise [refWrap]
  have hz : IntOp.cmpi .slt (v (ix1 r)) 0#32 = 0#1 := by
    rw [WordCmp.cmpi_slt_eq, decide_eq_false (by simpa using h)]; rfl
  rw [hz]; rfl

/-- The table's first column. -/
theorem refTable_fst (a b : IVec S512x1 32) (r : Fin 512) : refTable a b (ix2 r 0) = a (ix2 r 0) :=
  concatenate_pair_apply_left (t := S512x2) (s₁ := S512x1) (s₂ := S512x1) 1 a b _ (ix2 r 0) rfl (ix2 r 0)
    (fun d => by fin_cases d <;> rfl)

/-- The table's second column. -/
theorem refTable_snd (a b : IVec S512x1 32) (r : Fin 512) : refTable a b (ix2 r 1) = b (ix2 r 0) :=
  concatenate_pair_apply_right (t := S512x2) (s₁ := S512x1) (s₂ := S512x1) 1 a b _ (ix2 r 1) rfl rfl (ix2 r 0)
    (fun d hd => by fin_cases d <;> first | rfl | exact absurd rfl hd) rfl

/-- Where the start index's first component for row `r` lies in the table. -/
theorem siIdx_fst (r : Fin 512) :
    gather_S512x32768_S512x2_S512_n_01_n_n_01_1_11.siIdx (ix1 r) (0 : Fin 2) = ix2 r 0 := by
  funext d; fin_cases d <;> rfl

/-- Where its second component lies. -/
theorem siIdx_snd (r : Fin 512) :
    gather_S512x32768_S512x2_S512_n_01_n_n_01_1_11.siIdx (ix1 r) (1 : Fin 2) = ix2 r 1 := by
  funext d; fin_cases d <;> rfl

/-- The entry the table names for row `r`, when it names one in range. -/
theorem refPick_apply (L : FVec F S512x32768 .f32) (t : IVec S512x2 32) (r : Fin 512) (a : Fin 512) (v : Fin 32768)
    (ha : (t (ix2 r 0)).toInt.toNat = a.val) (hv : (t (ix2 r 1)).toInt.toNat = v.val) :
    refPick L t (ix1 r) = L (ix2 a v) := by
  refine congrArg L (funext fun d => Fin.ext ?_)
  have h0 : gather_S512x32768_S512x2_S512_n_01_n_n_01_1_11.start (ix1 r) t 0 = a.val := by
    show min (t (gather_S512x32768_S512x2_S512_n_01_n_n_01_1_11.siIdx (ix1 r) (0 : Fin 2))).toInt.toNat (512 - 1) = _
    rw [siIdx_fst, ha]; have := a.isLt; omega
  have h1 : gather_S512x32768_S512x2_S512_n_01_n_n_01_1_11.start (ix1 r) t 1 = v.val := by
    show min (t (gather_S512x32768_S512x2_S512_n_01_n_n_01_1_11.siIdx (ix1 r) (1 : Fin 2))).toInt.toNat (32768 - 1) = _
    rw [siIdx_snd, hv]; have := v.isLt; omega
  match d with
  | ⟨0, _⟩ => exact h0
  | ⟨1, _⟩ => exact h1

/-- The loss of row `r`, when its label is the column `v`: the shifted logarithm less that column's logit. -/
theorem refLoss_apply (L : FVec Ideal S512x32768 .f32) (lab : IVec S512 32) (r : Fin 512) (v : Fin 32768)
    (h0 : 0 ≤ (lab (ix1 r)).toInt) (hv : (lab (ix1 r)).toInt.toNat = v.val) :
    refLoss L lab (ix1 r)
      = refMax L (ix1 r) + Ideal.log (∑ v : Fin 32768, Ideal.exp (L (ix2 r v) - refMax L (ix1 r))) - L (ix2 r v) := by
  have hr : (iotaInDim S512 32 0 (ix1 r)).toInt = r.val := by
    show (BitVec.ofNat 32 r.val).toInt = r.val
    have := r.isLt
    rw [BitVec.toInt_eq_toNat_cond, BitVec.toNat_ofNat, Nat.mod_eq_of_lt (by omega), if_pos (by omega)]
  have e : refPick L (refTable (refWrap 512#32 (iotaInDim S512 32 0)) (refWrap 32768#32 lab)) (ix1 r) = L (ix2 r v) :=
    refPick_apply L _ r r v (by rw [refTable_fst, refWrap_apply _ _ _ (by rw [hr]; omega), hr, Int.toNat_natCast])
      (by rw [refTable_snd, refWrap_apply _ _ _ h0, hv])
  rw [← e, ← refLse_apply, refLoss, subf_apply, Ideal.subf_def]

end Cert.CrossEntropy

end
-- ==== Proof.Loss.lean ====
/-
# The kernel's loss is the reference's

When the activations and the weight are real numbers and every label is a column of the weight, and every device holds its block of
8192 of the weight's columns: the four rows of sums a device adds are the sum over all the columns, the four rows of labels are
the label's logit, and the logarithm of the first less the second is the reference's shifted form of it.
-/
module

public import proofs.«01_k».proof.Proof.KernelValue
public import proofs.«01_k».proof.Proof.LogSumExp
public import proofs.«01_k».proof.Proof.RefValue

@[expose] public section

noncomputable section

namespace Cert.CrossEntropy

open Cert.KernelIdeal Cert.KernelIdeal.Gen
open Idealize.ShloMosaic

/-- Column `l` of block `z` is a column of the weight. -/
theorem col_lt (z : ℕ) (hz : z < 4) (l : Fin 8192) : z * 8192 + l.val < 32768 := by
  have := l.isLt; omega
/-- The same of a device's own block. -/
theorem col_lt_mod (c : ℕ) (l : Fin 8192) : c % 4 * 8192 + l.val < 32768 := col_lt _ (Nat.mod_lt _ (by decide)) l

/-- A row of logits as a function of the column's number (zero past the last column). -/
def col (L : FVec Ideal Cert.ReferenceIdeal.S512x32768 .f32) (r : Fin 512) (v : ℕ) : EReal :=
  if h : v < 32768 then L (ix2 r ⟨v, h⟩) else 0

theorem col_val (L : FVec Ideal Cert.ReferenceIdeal.S512x32768 .f32) (r : Fin 512) (v : Fin 32768) : col L r v.val = L (ix2 r v) :=
  dif_pos v.isLt

/-- Sums and products of real numbers are real numbers. -/
theorem real_dot {n : ℕ} (f g : Fin n → EReal) (hf : ∀ i, ∃ a : ℝ, f i = a) (hg : ∀ i, ∃ a : ℝ, g i = a) :
    ∃ a : ℝ, ∑ i, f i * g i = a := by
  choose a ha using hf
  choose b hb using hg
  refine ⟨∑ i, a i * b i, ?_⟩
  rw [coe_sum]
  exact Finset.sum_congr rfl fun i _ => by rw [ha, hb, EReal.coe_mul]

/-- `l` is the label's column counted from block `z`'s first exactly when the label is column `l` of that block. -/
theorem label_col (z k l : ℕ) (lab : BitVec 32) (hz : z < 4) (hl : l < 8192) (hk : lab.toNat = k) (hk' : k < 32768) :
    BitVec.ofNat 32 l = lab - BitVec.ofNat 32 z * 8192#32 ↔ z * 8192 + l = k := by
  rw [← BitVec.toNat_inj, BitVec.toNat_sub, BitVec.toNat_mul, BitVec.toNat_ofNat, BitVec.toNat_ofNat, BitVec.toNat_ofNat, hk]
  omega

/-- A device's logit is the whole weight's at the column its block's column is. -/
theorem logits_col (x : Vec Ideal S512x1024 .f32) (W : FVec Ideal Cert.ReferenceIdeal.S1024x32768 .f32)
    (w : Vec Ideal S1024x8192 .f32) (z : ℕ) (hz : z < 4)
    (hw : ∀ (k : Fin 1024) (l : Fin 8192), w (ix2 k l) = W (ix2 k ⟨z * 8192 + l.val, col_lt z hz l⟩))
    (r : Fin 512) (l : Fin 8192) : k0_pay1 x w (ix2 r l) = col (refLogits x W) r (z * 8192 + l.val) := by
  rw [col, dif_pos (col_lt z hz l), logits_apply, refLogits_apply]
  exact Finset.sum_congr rfl fun k _ => by rw [hw]

/-- The kernel's result on one device, from the devices' blocks of the weight. -/
def kernelLoss (x : Vec Ideal S512x1024 .f32) (w : Dev nD → Vec Ideal S1024x8192 .f32) (lab : Vec Ideal S512 .i32) (c : Dev nD) :
    FVec Ideal S512 .f32 :=
  let s : Dev nD → Vec Ideal S1x512 .f32 := fun d => k0_pay3 (k0_pay2 x (w d))
  let l : Dev nD → Vec Ideal S1x512 .f32 := fun d => k0_pay4 (zWord d) (k0_pay1 x (w d)) lab
  k0_pay7
    (k0_pay5 (s c) (deepen (s (up (Fin.rev 0) c))) (deepen (s (up (Fin.rev 1) c))) (deepen (s (up (Fin.rev 2) c))))
    (k0_pay6 (l c)) (deepen (l (up (Fin.rev 0) c))) (deepen (l (up (Fin.rev 1) c))) (deepen (l (up (Fin.rev 2) c)))

section
variable (x : Vec Ideal S512x1024 .f32) (W : FVec Ideal Cert.ReferenceIdeal.S1024x32768 .f32) (w : Dev nD → Vec Ideal S1024x8192 .f32)
  (lab : Vec Ideal S512 .i32)
  (hw : ∀ (c : Dev nD) (k : Fin 1024) (l : Fin 8192),
    w c (ix2 k l) = W (ix2 k ⟨c.val % 4 * 8192 + l.val, col_lt_mod c.val l⟩))

include hw

/-- A device's row of sums, by the columns' numbers in the whole weight. -/
theorem sums_col (c : Dev nD) (r : Fin 512) : k0_pay3 (k0_pay2 x (w c)) (ix2 0 r)
    = ∑ l : Fin 8192, Ideal.exp (col (refLogits x W) r (c.val % 4 * 8192 + l.val)) := by
  rw [sums_apply]
  exact Finset.sum_congr rfl fun l _ => by rw [logits_col x W (w c) _ (Nat.mod_lt _ (by decide)) (hw c)]

/-- A device's row of labels, by the columns' numbers in the whole weight. -/
theorem labels_col (c : Dev nD) (r : Fin 512) (k : ℕ) (hk : (lab (ix1 r)).toNat = k) (hk' : k < 32768) :
    k0_pay4 (zWord c) (k0_pay1 x (w c)) lab (ix2 0 r)
      = ∑ l : Fin 8192, (fun v => if v = k then col (refLogits x W) r v else 0) (c.val % 4 * 8192 + l.val) := by
  rw [labels_apply, zWord_eq]
  refine Finset.sum_congr rfl fun l _ => ?_
  rw [logits_col x W (w c) _ (Nat.mod_lt _ (by decide)) (hw c)]
  exact if_congr (label_col _ _ _ _ (Nat.mod_lt _ (by decide)) l.isLt hk hk') rfl rfl

/-- The kernel's loss of row `r`, whose label is column `k`. -/
theorem kernelLoss_apply (c : Dev nD) (r : Fin 512) (k : Fin 32768) (hk : (lab (ix1 r)).toNat = k.val) :
    kernelLoss x w lab c (ix1 r)
      = Ideal.log (∑ v : Fin 32768, Ideal.exp (refLogits x W (ix2 r v))) - refLogits x W (ix2 r k) := by
  have h0 : (up (Fin.rev 0) c).val % 4 = (c.val % 4 + 3) % 4 := by
    rw [up_val, show (Fin.rev (0 : Fin 3)).val = 2 from rfl]; omega
  have h1 : (up (Fin.rev 1) c).val % 4 = (c.val % 4 + 2) % 4 := by
    rw [up_val, show (Fin.rev (1 : Fin 3)).val = 1 from rfl]; omega
  have h2 : (up (Fin.rev 2) c).val % 4 = (c.val % 4 + 1) % 4 := by
    rw [up_val, show (Fin.rev (2 : Fin 3)).val = 0 from rfl]; omega
  rw [kernelLoss, result_apply]
  simp only [sums_col x W w hw, labels_col x W w lab hw _ r k.val hk k.isLt, h0, h1, h2]
  rw [sum_blocks (fun v => Ideal.exp (col (refLogits x W) r v)) _ (Nat.mod_lt _ (by decide)),
    sum_blocks (fun v => if v = k.val then col (refLogits x W) r v else 0) _ (Nat.mod_lt _ (by decide)),
    sum_label (col (refLogits x W) r) k.val k.isLt]
  simp only [col_val]

/-- The kernel's loss is the reference's. -/
theorem kernelLoss_eq (hx : ∀ i, ∃ a : ℝ, x i = a) (hW : ∀ i, ∃ a : ℝ, W i = a)
    (hl : ∀ r : Fin 512, 0 ≤ (lab (ix1 r)).toInt ∧ (lab (ix1 r)).toInt < 32768) (c : Dev nD) :
    kernelLoss x w lab c = refOut x W lab := by
  funext i
  obtain ⟨r, rfl⟩ : ∃ r : Fin 512, i = ix1 r := ⟨i 0, (ix1_eta i).symm⟩
  obtain ⟨hl0, hl1⟩ := hl r
  have hn : (lab (ix1 r)).toInt = (lab (ix1 r)).toNat := by
    rw [BitVec.toInt_eq_toNat_cond] at hl0 ⊢
    have := (lab (ix1 r)).isLt
    split <;> [rfl; (split at hl0 <;> omega)]
  have hk : (lab (ix1 r)).toNat < 32768 := by omega
  have hL : ∀ v : Fin 32768, ∃ a : ℝ, refLogits x W (ix2 r v) = a := fun v => by
    rw [refLogits_apply]; exact real_dot _ _ (fun k => hx _) (fun k => hW _)
  rw [kernelLoss_apply x W w lab hw c r ⟨_, hk⟩ rfl, refOut,
    refLoss_apply (refLogits x W) lab r ⟨_, hk⟩ hl0 (by rw [hn, Int.toNat_natCast]), refMax_apply]
  generalize refLogits x W = L at hL ⊢
  choose a ha using hL
  simp only [ha]
  obtain ⟨M, hM⟩ := fold_max_coe (Finset.univ : Finset (Fin 32768)) ⟨⟨0, by omega⟩, Finset.mem_univ _⟩ a
  rw [hM, log_sum_exp_shift _ ⟨⟨0, by omega⟩, Finset.mem_univ _⟩]

end

end Cert.CrossEntropy

end
-- ==== Proof.Values.lean ====
/-
# The kernel computes what the reference computes

The precondition, read entry by entry, and the claim it serves: over the extended reals every device's result is the reference's.
-/
module

public import proofs.«01_k».proof.Proof.Frames
public import proofs.«01_k».proof.Proof.Loss

@[expose] public section

noncomputable section

namespace Cert.CrossEntropy

open Idealize.ShloMosaic Idealize.ShloMosaic.TcCoe Idealize.SL.Sem

/-- The word a magnitude is compared with is infinity. -/
theorem posInf : Ideal.ofBits .f32 0x7F800000#32 = ⊤ := by
  simp [Ideal.ofBits, Ideal.ieee]

/-- A magnitude below infinity is a real number's. -/
theorem real_of_lt (a : EReal) (h : Ideal.cmp .olt (max a (-a)) ⊤ = 1#1) : ∃ b : ℝ, a = b := by
  have hlt : max a (-a) < ⊤ := by
    by_contra hn
    rw [Ideal.cmp, decide_eq_false hn] at h
    exact absurd h (by decide)
  refine ⟨a.toReal, (EReal.coe_toReal ?_ ?_).symm⟩
  · rintro rfl; simp at hlt
  · rintro rfl; simp at hlt

section
open Cert.Pre_finite_in_vocabulary_KernelIdeal
variable (x : FVec Ideal S512x1024 .f32) (w : FVec Ideal S1024x8192 .f32) (lab : IVec S512 32)

/-- What the precondition says of the activations, -/
theorem pre_x (h : (fn x w lab).1 = fun _ => 1#1) (i : S512x1024.Idx) : ∃ a : ℝ, x i = a := by
  refine real_of_lt _ ?_
  rw [← posInf]; exact congrFun h i
/-- of a block of the weight, -/
theorem pre_w (h : (fn x w lab).2.1 = fun _ => 1#1) (i : S1024x8192.Idx) : ∃ a : ℝ, w i = a := by
  refine real_of_lt _ ?_
  rw [← posInf]; exact congrFun h i
/-- and of the labels. -/
theorem pre_lab (h : (fn x w lab).2.2 = fun _ => 1#1) (i : S512.Idx) : 0 ≤ (lab i).toInt ∧ (lab i).toInt < 32768 := by
  have e : BitVec.ofBool (decide ((0#32).toInt ≤ (lab i).toInt)) &&& BitVec.ofBool (decide ((lab i).toInt < (32768#32).toInt)) = 1#1 :=
    congrFun h i
  rw [show (0#32).toInt = 0 from by decide, show (32768#32).toInt = 32768 from by decide] at e
  by_cases h0 : 0 ≤ (lab i).toInt <;> by_cases h1 : (lab i).toInt < 32768
  · exact ⟨h0, h1⟩
  all_goals simp [h0, h1] at e
end

section
open Cert.KernelIdeal Cert.KernelIdeal.Gen

/-- A window that is its whole array reads the array: the activations, -/
theorem xAt_eq (m : (ℓ : Loc nD τ sig) → Buf (Elt Ideal) ℓ) (ρ : Dev nD → PrngReg) (c : Dev nD) :
    xAt m ρ c = m ((c.tc : Thread nD τ).loc main_arg0) :=
  Memref.read_access_unit_zero (Elt Ideal) main_arg0 (funext fun a => by fin_cases a <;> decide) (fun a => by fin_cases a <;> decide) _
/-- the block of the weight, -/
theorem wAt_eq (m : (ℓ : Loc nD τ sig) → Buf (Elt Ideal) ℓ) (ρ : Dev nD → PrngReg) (c : Dev nD) :
    wAt m ρ c = m ((c.tc : Thread nD τ).loc main_arg1) :=
  Memref.read_access_unit_zero (Elt Ideal) main_arg1 (funext fun a => by fin_cases a <;> decide) (fun a => by fin_cases a <;> decide) _
/-- the labels, -/
theorem labAt_eq (m : (ℓ : Loc nD τ sig) → Buf (Elt Ideal) ℓ) (ρ : Dev nD → PrngReg) (c : Dev nD) :
    labAt m ρ c = m ((c.tc : Thread nD τ).loc main_arg2) :=
  Memref.read_access_unit_zero (Elt Ideal) main_arg2 (funext fun a => by fin_cases a <;> decide) (fun a => by fin_cases a <;> decide) _
/-- and the result. -/
theorem final_result (m : (ℓ : Loc nD τ sig) → Buf (Elt Ideal) ℓ) (ρ : Dev nD → PrngReg) (c : Dev nD) :
    finalA m ρ c (3 : Fin 4) = outAt m ρ c :=
  (Memref.read_access_unit_zero (Elt Ideal) main_v1 (funext fun a => by fin_cases a <;> decide) (fun a => by fin_cases a <;> decide)
    (finalA m ρ c (3 : Fin 4))).symm.trans (final_out m ρ c)

/-- Every device's result, when all hold the same activations and labels. -/
theorem outAt_eq (m : (ℓ : Loc nD τ sig) → Buf (Elt Ideal) ℓ) (ρ : Dev nD → PrngReg) (x : Vec Ideal S512x1024 .f32)
    (lab : Vec Ideal S512 .i32) (hx : ∀ c : Dev nD, m ((c.tc : Thread nD τ).loc main_arg0) = x)
    (hlab : ∀ c : Dev nD, m ((c.tc : Thread nD τ).loc main_arg2) = lab) (c : Dev nD) :
    outAt m ρ c = kernelLoss x (fun d => m ((d.tc : Thread nD τ).loc main_arg1)) lab c := by
  have hxa : ∀ d, xAt m ρ d = x := fun d => (xAt_eq m ρ d).trans (hx d)
  have hla : ∀ d, labAt m ρ d = lab := fun d => (labAt_eq m ρ d).trans (hlab d)
  have hs : ∀ d, sRow m ρ d = k0_pay3 (k0_pay2 x (m ((d.tc : Thread nD τ).loc main_arg1))) := fun d => by
    rw [sRow, hxa, wAt_eq]
  have hl : ∀ d, lRow m ρ d = k0_pay4 (zWord d) (k0_pay1 x (m ((d.tc : Thread nD τ).loc main_arg1))) lab := fun d => by
    rw [lRow, hxa, hla, wAt_eq]
  rw [outAt, hs, hs, hs, hs, hl, hl, hl, hl]
  rfl
end

/-- Entry `(k, l)` of a device's block of the weight is entry `(k, z * 8192 + l)` of the weight, `z` the device's place in its line. -/
theorem block_apply (W : Cert.ReferenceIdeal.S1024x32768.Idx → EReal) (c : Dev Cert.KernelIdeal.nD) (k : Fin 1024) (l : Fin 8192) :
    (Layout.blockN ⟨2, ![1024, 8192]⟩ ⟨2, ![1024, 32768]⟩ (Layout.meshBlock [2, 4, 4] ![[], [2]] c) W) (ix2 k l)
      = W (ix2 k ⟨c.val % 4 * 8192 + l.val, col_lt_mod c.val l⟩) := by
  rw [Layout.blockN_apply]
  refine congrArg W (funext fun b => Fin.ext ?_)
  have hz : ∀ c : Dev Cert.KernelIdeal.nD, ((Layout.meshBlock (r := 2) [2, 4, 4] ![[], [2]] c) (1 : Fin 2)).val = c.val % 4 := by decide
  match b with
  | ⟨0, _⟩ => exact (congrArg (· + k.val) (Nat.zero_mul _)).trans (Nat.zero_add _)
  | ⟨1, _⟩ => exact congrArg (fun z => z * 8192 + l.val) (hz c)

/-- Every column of the weight lies in some device's block. -/
theorem block_cover (W : Cert.ReferenceIdeal.S1024x32768.Idx → EReal) (P : EReal → Prop)
    (h : ∀ (c : Dev Cert.KernelIdeal.nD) (k : Fin 1024) (l : Fin 8192), P (W (ix2 k ⟨c.val % 4 * 8192 + l.val, col_lt_mod c.val l⟩)))
    (i : Cert.ReferenceIdeal.S1024x32768.Idx) : P (W i) := by
  obtain ⟨k, v, rfl⟩ : ∃ (k : Fin 1024) (v : Fin 32768), i = ix2 k v := ⟨i 0, i 1, eq_ix2 i⟩
  have hv := v.isLt
  have hc : v.val / 8192 < 32 := by omega
  have := h ⟨v.val / 8192, hc⟩ k ⟨v.val % 8192, by omega⟩
  rwa [show (⟨v.val / 8192 % 4 * 8192 + v.val % 8192, by omega⟩ : Fin 32768) = v from Fin.ext (by show v.val / 8192 % 4 * 8192 + v.val % 8192 = v.val; omega)] at this

section
open Cert.ReferenceIdeal Cert.ReferenceIdeal.Gen

/-- The reference's result, on the arguments its device starts with. -/
def refResult (m : (ℓ : Loc nD τ sig) → Buf (Elt Ideal) ℓ) : FVec Ideal S512 .f32 :=
  refOut (m (((0 : Dev nD).tc : Thread nD τ).loc main_arg0)) (m (((0 : Dev nD).tc : Thread nD τ).loc main_arg1))
    (m (((0 : Dev nD).tc : Thread nD τ).loc main_arg2))

/-- The reference ends with its result, its arguments as they were. -/
theorem ref_run (m : (ℓ : Loc nD τ sig) → Buf (Elt Ideal) ℓ) (ρ : Dev nD → PrngReg) :
    θ_run defs (onTc (τ := τ) (main (F := Ideal))) ⟨m, fun _ => 0, ρ⟩ fun r =>
      r.2.mem (((0 : Dev nD).tc : Thread nD τ).loc main_v26) = refResult m
      ∧ r.2.mem (((0 : Dev nD).tc : Thread nD τ).loc main_arg0) = m (((0 : Dev nD).tc : Thread nD τ).loc main_arg0)
      ∧ r.2.mem (((0 : Dev nD).tc : Thread nD τ).loc main_arg1) = m (((0 : Dev nD).tc : Thread nD τ).loc main_arg1)
      ∧ r.2.mem (((0 : Dev nD).tc : Thread nD τ).loc main_arg2) = m (((0 : Dev nD).tc : Thread nD τ).loc main_arg2) := by
  refine (θ_run defs _ _).mono (fun r h => ⟨(h 0).1.trans ?_, (h 0).2⟩) (Cert.ReferenceIdeal.Value.run (F := Ideal) m ρ)
  unfold refResult refOut refLoss refLse refPick refTable refWrap refMax refLogits
  rfl
end

/-- Every device ends with the reference's result, and both programs with their arguments as they were. -/
theorem algebraic : Cert.algebraic_KernelIdeal_ReferenceIdeal_pre_finite_in_vocabulary_KernelIdeal := by
  intro m g m' g' hpre hag
  have hloss := kernelLoss_eq
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (fun d => m ((d.tc : Thread Cert.KernelIdeal.nD Cert.KernelIdeal.τ).loc Cert.KernelIdeal.main_arg1))
    (m' (((0 : Dev Cert.ReferenceIdeal.nD).tc : Thread Cert.ReferenceIdeal.nD Cert.ReferenceIdeal.τ).loc Cert.ReferenceIdeal.main_arg2))
    (fun c k l => (congrFun (hag c).2.1 (ix2 k l)).trans (block_apply _ c k l))
    (fun i => by rw [← (hag 0).1]; exact pre_x _ _ _ (hpre 0).1 i)
    (block_cover _ (fun e => ∃ a : ℝ, e = a) fun c k l => by
      have := pre_w _ _ _ (hpre c).2.1 (ix2 k l)
      rwa [(hag c).2.1, block_apply] at this)
    (fun r => by rw [← (hag 0).2.2]; exact pre_lab _ _ _ (hpre 0).2.2 _)
  refine ⟨refResult m', (θ_run _ _ _).mono (fun r h c => ⟨?_, ?_, ?_, ?_⟩) (run_main (F := Ideal) m g), ref_run m' g'⟩
  · exact (h.1 c (3 : Fin 4)).trans ((final_result m g c).trans
      ((outAt_eq m g _ _ (fun d => (hag d).1) (fun d => (hag d).2.2) c).trans (hloss c)))
  · exact (h.1 c (0 : Fin 4)).trans (final_in m g c 0 (by decide))
  · exact (h.1 c (1 : Fin 4)).trans (final_in m g c 1 (by decide))
  · exact (h.1 c (2 : Fin 4)).trans (final_in m g c 2 (by decide))

end Cert.CrossEntropy

end
-- ==== Proof.lean ====
/-
# The claim

The frames and the value claim, put together.
-/
module

public import proofs.«01_k».proof.Defs
public import proofs.«01_k».proof.Proof.Values
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Cert.CrossEntropy

/-- Everything the certificate claims: the three programs' frames, the kernel's program preserved under exact arithmetic, and the
    kernel's results equal to the reference's. -/
theorem claim : Cert.Claim :=
  ⟨Cert.Kernel.Gen.facts, Cert.KernelIdeal.Gen.facts, Cert.ReferenceIdeal.Gen.facts, preFacts, preFactsRef,
    frame_kernel, frame_kernelIdeal, frame_kernelIdeal_pre, frame_referenceIdeal, frame_referenceIdeal_pre, trivial, algebraic⟩

end Cert.Proof

end
